-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_ids_in_range_finite [hPre_ids_in_range_finite : Cert.Pre_ids_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_finite [hPre_ids_in_range_finite : Cert.Pre_ids_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_in_range_finite [hKernelIdeal : Cert.KernelIdeal.Facts] [hPre_ids_in_range_finite : Cert.Pre_ids_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range_finite [hReferenceIdeal : Cert.ReferenceIdeal.Facts] [hPre_ids_in_range_finite : Cert.Pre_ids_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_seq" .f32 0x3BA3D70A#32 ((1 / 200 : ℝ) : EReal)

def algebraic_KernelIdeal_ReferenceIdeal_pre_ids_in_range_finite [hKernelIdeal : Cert.KernelIdeal.Facts] [hReferenceIdeal : Cert.ReferenceIdeal.Facts] [hPre_ids_in_range_finite : Cert.Pre_ids_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_finite : Cert.Pre_ids_in_range_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_finite (hKernelIdeal := hKernelIdeal) (hPre_ids_in_range_finite := hPre_ids_in_range_finite)
    ∧ quiescent_ReferenceIdeal (hReferenceIdeal := hReferenceIdeal)
    ∧ quiescent_ReferenceIdeal_pre_ids_in_range_finite (hReferenceIdeal := hReferenceIdeal) (hPre_ids_in_range_finite := hPre_ids_in_range_finite)
    ∧ preserves_Kernel_KernelIdeal
    ∧ algebraic_KernelIdeal_ReferenceIdeal_pre_ids_in_range_finite (hKernelIdeal := hKernelIdeal) (hReferenceIdeal := hReferenceIdeal) (hPre_ids_in_range_finite := hPre_ids_in_range_finite)
-- ==== Pre_ids_in_range.lean ====
abbrev S1024x200 : Shape := ⟨2, ![1024, 200]⟩
abbrev S100000x128 : Shape := ⟨2, ![100000, 128]⟩
abbrev S16x128 : Shape := ⟨2, ![16, 128]⟩
abbrev S16 : Shape := ⟨1, ![16]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : IVec S1024x200 32) (main_arg1 : FVec F S100000x128 .f32) (main_arg2 : FVec F S16x128 .f32) (main_arg3 : FVec F S16 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  main_v4
-- ==== Pre_ids_in_range_finite.lean ====
abbrev S1024x200 : Shape := ⟨2, ![1024, 200]⟩
abbrev S100000x128 : Shape := ⟨2, ![100000, 128]⟩
abbrev S16x128 : Shape := ⟨2, ![16, 128]⟩
abbrev S16 : Shape := ⟨1, ![16]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : IVec S1024x200 32) (main_arg1 : FVec F S100000x128 .f32) (main_arg2 : FVec F S16x128 .f32) (main_arg3 : FVec F S16 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_v6 : FVec F S100000x128 .f32 := Host.absf main_arg1
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : IVec S_ 1 := andi main_v5 main_v9
  let main_v11 : FVec F S16x128 .f32 := Host.absf main_arg2
  let main_cst_3 : FVec F S_ .f32 := constant S_ .f32 0x7F800000#32
  let main_v12 : FVec F S16x128 .f32 := broadcastInDim S16x128 ![] bcast_S_S16x128 main_cst_3
  let main_v13 : IVec S16x128 1 := cmpf .olt main_v11 main_v12
  let main_c_4 : IVec S_ 1 := constantI S_ 1 1#1
  let main_v14 : IVec S_ 1 := (fun x v => Host.reduce IntOp.andi x v reducesTo_S16x128_S_d0_1 h_S_) main_v13 main_c_4
  let main_v15 : IVec S_ 1 := andi main_v10 main_v14
  main_v15
-- ==== Kernel.lean ====
abbrev S1024x200 : Shape := ⟨2, ![1024, 200]⟩
abbrev S100000x128 : Shape := ⟨2, ![100000, 128]⟩
abbrev S16x128 : Shape := ⟨2, ![16, 128]⟩
abbrev S16 : Shape := ⟨1, ![16]⟩
abbrev S100000x16 : Shape := ⟨2, ![100000, 16]⟩
abbrev S2000x128 : Shape := ⟨2, ![2000, 128]⟩
abbrev S2000x16 : Shape := ⟨2, ![2000, 16]⟩
abbrev S204800 : Shape := ⟨1, ![204800]⟩
abbrev S1024x16 : Shape := ⟨2, ![1024, 16]⟩
abbrev S6400 : Shape := ⟨1, ![6400]⟩
abbrev S6400x16 : Shape := ⟨2, ![6400, 16]⟩
abbrev S32x16 : Shape := ⟨2, ![32, 16]⟩
abbrev S_ : Shape := ⟨0, ![]⟩
abbrev S128x16 : Shape := ⟨2, ![128, 16]⟩
abbrev S128 : Shape := ⟨1, ![128]⟩
abbrev S1x16 : Shape := ⟨2, ![1, 16]⟩

abbrev nBuf : Table → Nat
  | .hbm => 7
  | .local .tc .vmem => 5
  | .local .scVector .vmem => 4
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S16x128, .f32⟩
  | .hbm, ⟨3, _⟩ => ⟨S16, .f32⟩
  | .hbm, ⟨4, _⟩ => ⟨S100000x16, .f32⟩
  | .hbm, ⟨5, _⟩ => ⟨S204800, .i32⟩
  | .hbm, ⟨6, _⟩ => ⟨S1024x16, .f32⟩
  | .local .tc .vmem, ⟨0, _⟩ => ⟨S2000x128, .f32⟩
  | .local .tc .vmem, ⟨1, _⟩ => ⟨S2000x128, .f32⟩
  | .local .tc .vmem, ⟨2, _⟩ => ⟨S16x128, .f32⟩
  | .local .tc .vmem, ⟨3, _⟩ => ⟨S2000x16, .f32⟩
  | .local .tc .vmem, ⟨4, _⟩ => ⟨S2000x16, .f32⟩
  | .local .scVector .vmem, ⟨0, _⟩ => ⟨S6400, .i32⟩
  | .local .scVector .vmem, ⟨1, _⟩ => ⟨S6400x16, .f32⟩
  | .local .scVector .vmem, ⟨2, _⟩ => ⟨S32x16, .f32⟩
  | .local .scVector .vmem, ⟨3, _⟩ => ⟨S16, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_v1_scv : Ref sig .scVector := ⟨.hbm, 5, rfl⟩
abbrev main_arg3_scv : Ref sig .scVector := ⟨.hbm, 3, rfl⟩
abbrev main_v2_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k1_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k1_off2 (k1_t1 : Fin k1_t1_loop.trips) : Fin 2 → Nat :=
  let c0_i32_0 : BitVec 32 := 0#32
  let c1_i32 : BitVec 32 := 1#32
  let arg11 : BitVec 32 := Scf.iv c0_i32_0 c1_i32 k1_t1
  let c128_i32_7 : BitVec 32 := 128#32
  let v9 : BitVec 32 := Scalar.muli arg11 c128_i32_7
  let c0_i32_8 : BitVec 32 := 0#32
  ![v9.toNat, 0]
def k1_off3 (k1_t1 : Fin k1_t1_loop.trips) : Fin 1 → Nat :=
  let c0_i32_0 : BitVec 32 := 0#32
  let c1_i32 : BitVec 32 := 1#32
  let arg11 : BitVec 32 := Scf.iv c0_i32_0 c1_i32 k1_t1
  let c128_i32 : BitVec 32 := 128#32
  let v8 : BitVec 32 := Scalar.muli arg11 c128_i32
  ![v8.toNat]
@[reducible] def k1_t2_loop : Scf.Loop 32 :=
  let c0_i32_3 : BitVec 32 := 0#32
  let c32_i32 : BitVec 32 := 32#32
  let v6 : BitVec 32 := Scalar.addi c0_i32_3 c32_i32
  let c1_i32_4 : BitVec 32 := 1#32
  ⟨c0_i32_3, v6, c1_i32_4⟩
@[reducible] def k1_t3_loop : Scf.Loop 32 :=
  let c0_i32_7 : BitVec 32 := 0#32
  let c200_i32 : BitVec 32 := 200#32
  let v9 : BitVec 32 := Scalar.addi c0_i32_7 c200_i32
  let c1_i32_8 : BitVec 32 := 1#32
  ⟨c0_i32_7, v9, c1_i32_8⟩
def k1_off4 (k1_t2 : Fin k1_t2_loop.trips) (k1_t3 : Fin k1_t3_loop.trips) : Fin 2 → Nat :=
  let c0_i32_3 : BitVec 32 := 0#32
  let c1_i32_4 : BitVec 32 := 1#32
  let arg11 : BitVec 32 := Scf.iv c0_i32_3 c1_i32_4 k1_t2
  let c200_i32_12 : BitVec 32 := 200#32
  let v18 : BitVec 32 := Scalar.muli arg11 c200_i32_12
  let c0_i32_7 : BitVec 32 := 0#32
  let c1_i32_8 : BitVec 32 := 1#32
  let arg12 : BitVec 32 := Scf.iv c0_i32_7 c1_i32_8 k1_t3
  let v19 : BitVec 32 := Scalar.addi v18 arg12
  let v20 : Index := Scalar.indexCast v19
  let c0_13 : Index := 0#32
  ![v20.toNat, 0]
def k1_off5 (k1_t2 : Fin k1_t2_loop.trips) : Fin 2 → Nat :=
  let c0_i32_3 : BitVec 32 := 0#32
  let c1_i32_4 : BitVec 32 := 1#32
  let arg11 : BitVec 32 := Scf.iv c0_i32_3 c1_i32_4 k1_t2
  let v14 : Index := Scalar.indexCast arg11
  let c0_11 : Index := 0#32
  ![v14.toNat, 0]
def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_6 : BitVec 32 := 32#32
  let v7 : BitVec 32 := Scalar.muli v1 c32_i32_6
  let c0_i32_7_r2 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_seq" => some ((1 / 200 : ℝ) : EReal)
  | _ => none
-- ==== ReferenceIdeal.lean ====
abbrev S1024x200 : Shape := ⟨2, ![1024, 200]⟩
abbrev S100000x128 : Shape := ⟨2, ![100000, 128]⟩
abbrev S16x128 : Shape := ⟨2, ![16, 128]⟩
abbrev S16 : Shape := ⟨1, ![16]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1024x128 : Shape := ⟨2, ![1024, 128]⟩
abbrev S128x16 : Shape := ⟨2, ![128, 16]⟩
abbrev S1024x16 : Shape := ⟨2, ![1024, 16]⟩
abbrev S1x16 : Shape := ⟨2, ![1, 16]⟩

abbrev nBuf : Space → Nat
  | .hbm => 37
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S16x128, .f32⟩
  | .hbm, ⟨3, _⟩ => ⟨S16, .f32⟩
  | .hbm, ⟨4, _⟩ => ⟨S_, .i32⟩
  | .hbm, ⟨5, _⟩ => ⟨S1024x200, .i32⟩
  | .hbm, ⟨6, _⟩ => ⟨S1024x200, .i1⟩
  | .hbm, ⟨7, _⟩ => ⟨S_, .i32⟩
  | .hbm, ⟨8, _⟩ => ⟨S1024x200, .i32⟩
  | .hbm, ⟨9, _⟩ => ⟨S1024x200, .i32⟩
  | .hbm, ⟨10, _⟩ => ⟨S1024x200, .i32⟩
  | .hbm, ⟨11, _⟩ => ⟨S1024x200x1, .i32⟩
  | .hbm, ⟨12, _⟩ => ⟨S1, .i32⟩
  | .hbm, ⟨13, _⟩ => ⟨S_, .i32⟩
  | .hbm, ⟨14, _⟩ => ⟨S1024x200x1, .i32⟩
  | .hbm, ⟨15, _⟩ => ⟨S1024x200x1, .i1⟩
  | .hbm, ⟨16, _⟩ => ⟨S1x1x1, .i32⟩
  | .hbm, ⟨17, _⟩ => ⟨S1024x200x1, .i32⟩
  | .hbm, ⟨18, _⟩ => ⟨S1024x200x1, .i1⟩
  | .hbm, ⟨19, _⟩ => ⟨S1024x200x1, .i1⟩
  | .hbm, ⟨20, _⟩ => ⟨S_, .i1⟩
  | .hbm, ⟨21, _⟩ => ⟨S1024x200, .i1⟩
  | .hbm, ⟨22, _⟩ => ⟨S1024x200x128, .f32⟩
  | .hbm, ⟨23, _⟩ => ⟨S1024x200x128, .i1⟩
  | .hbm, ⟨24, _⟩ => ⟨S_, .f32⟩
  | .hbm, ⟨25, _⟩ => ⟨S1024x200x128, .f32⟩
  | .hbm, ⟨26, _⟩ => ⟨S1024x200x128, .f32⟩
  | .hbm, ⟨27, _⟩ => ⟨S_, .f32⟩
  | .hbm, ⟨28, _⟩ => ⟨S1024x128, .f32⟩
  | .hbm, ⟨29, _⟩ => ⟨S_, .f32⟩
  | .hbm, ⟨30, _⟩ => ⟨S1024x128, .f32⟩
  | .hbm, ⟨31, _⟩ => ⟨S1024x128, .f32⟩
  | .hbm, ⟨32, _⟩ => ⟨S128x16, .f32⟩
  | .hbm, ⟨33, _⟩ => ⟨S1024x16, .f32⟩
  | .hbm, ⟨34, _⟩ => ⟨S1x16, .f32⟩
  | .hbm, ⟨35, _⟩ => ⟨S1024x16, .f32⟩
  | .hbm, ⟨36, _⟩ => ⟨S1024x16, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]
-- ==== Proof.Ranges.lean ====
/-
  What the two preconditions say of the arrays: every id, read as a number, is below 100000; and in the second, no entry of
  the table or of the weights is infinite.
-/
module

public import proofs.«01_k».proof.Proof.Gen.Pre_ids_in_range
public import proofs.«01_k».proof.Proof.Gen.Pre_ids_in_range_finite
public import Idealize.ShloMosaic.Lib.WordCmp
public import Idealize.ShloMosaic.PureOps.Reduce
public import Idealize.ShloMosaic.Lib.ValueIdxCore
public import Idealize.ShloMosaic.PureOps.Ideal.Laws

@[expose] public section

set_option maxRecDepth 16384

noncomputable section

namespace Cert.Ranges

open Idealize.ShloMosaic

variable {F : FTy → Type} [FloatOps F]

/-- The conjunction of two bits is one exactly when both are. -/
theorem and_one (x y : BitVec 1) : IntOp.andi x y = 1#1 ↔ x = 1#1 ∧ y = 1#1 := by
  revert x y; decide

/-- A word at least zero and below 100000 as a signed number is below 100000 as a natural number. -/
theorem id_lt (v : BitVec 32) (h : IntOp.andi (IntOp.cmpi .sge v 0#32) (IntOp.cmpi .slt v 100000#32) = 1#1) : v.toNat < 100000 := by
  have one (p : Bool) : (BitVec.ofBool p = 1#1) ↔ p = true := by cases p <;> decide
  obtain ⟨h0, h1⟩ := (and_one _ _).1 h
  simp only [IntOp.cmpi, one, BitVec.sle_eq_decide, BitVec.slt_eq_decide, decide_eq_true_eq,
    BitVec.toInt_eq_toNat_cond, BitVec.toNat_ofNat, Nat.reducePow, Nat.reduceMod] at h0 h1
  omega

/-- A conjunction over a whole array is one only when every entry is. -/
theorem all_one {s t u : Shape} {axes : List (Fin s.rank)} (x : s.Idx → BitVec 1) (init : u.Idx → BitVec 1) (h : s.ReducesTo axes t)
    (hu : 0 < u.numel) (j : t.Idx) (e : Host.reduce IntOp.andi x init h hu j = 1#1) (i : s.Idx) (hi : h.drop i = j) : x i = 1#1 := by
  rw [Host.reduce_eq_fold] at e
  have hr := Finset.fold_op_rel_iff_and (op := IntOp.andi) (r := fun (_ : BitVec 1) y => y = 1#1)
    (s := Finset.univ.filter fun i => h.drop i = j) (f := x) (b := init (Shape.Idx.first hu)) (c := 0#1) (and_one _ _)
  exact (hr.1 e).2 i (Finset.mem_filter.2 ⟨Finset.mem_univ i, hi⟩)

/-- `ids_in_range` all ones: every id is below 100000. -/
theorem ids_lt {ids t w b} (h : Cert.Pre_ids_in_range.fn (F := F) ids t w b = fun _ => 1#1) (j) : (ids j).toNat < 100000 :=
  id_lt _ (congrFun h j)

/-- An extended real whose absolute value is below the largest is a real number. -/
theorem real_of_abs_lt (x : EReal) (h : FloatOps.cmpf (F := Ideal) (φ := .f32) .olt (FloatOps.hostAbsf (φ := .f32) (x : Ideal .f32)) (Ideal.ofBits .f32 0x7F800000#32) = 1#1) :
    ∃ r : ℝ, x = r := by
  have htop : Ideal.ofBits .f32 0x7F800000#32 = ⊤ := by simp [Ideal.ofBits, Ideal.ieee]
  rw [htop] at h
  have hlt : max x (-x) < ⊤ := by
    by_contra hn
    have : FloatOps.cmpf (F := Ideal) (φ := .f32) .olt (FloatOps.hostAbsf (φ := .f32) (x : Ideal .f32)) (⊤ : EReal) = BitVec.ofBool (decide (max x (-x) < ⊤)) := rfl
    rw [this, decide_eq_false hn] at h
    exact absurd h (by decide)
  have h1 : x ≠ ⊤ := fun e => by subst e; simp at hlt
  have h2 : x ≠ ⊥ := fun e => by subst e; simp at hlt
  exact ⟨x.toReal, (EReal.coe_toReal h1 h2).symm⟩

/-- `ids_in_range_finite` all ones: every id is below 100000, and the table's and the weights' entries are real numbers. -/
theorem finite_parts {ids t w b} (h : Cert.Pre_ids_in_range_finite.fn (F := Ideal) ids t w b = fun _ => 1#1) :
    (∀ j, (ids j).toNat < 100000) ∧ (∀ j, ∃ r : ℝ, t j = (r : EReal)) ∧ (∀ j, ∃ r : ℝ, w j = (r : EReal)) := by
  have e := congrFun h ValueIdx.ix0
  simp only [Cert.Pre_ids_in_range_finite.fn] at e
  obtain ⟨e, hw⟩ := (and_one _ _).1 e
  obtain ⟨hi, ht⟩ := (and_one _ _).1 e
  exact ⟨fun j => id_lt _ (all_one _ _ _ _ _ hi j (Subsingleton.elim _ _)),
    fun j => real_of_abs_lt _ (all_one _ _ _ _ _ ht j (Subsingleton.elim _ _)),
    fun j => real_of_abs_lt _ (all_one _ _ _ _ _ hw j (Subsingleton.elim _ _))⟩

end Cert.Ranges

end
-- ==== Proof.Ideal.Setup.lean ====
/-
  What every module of this certificate speaks about: the kernel's program as the launch theorem sees it, the ghost
  state the proof runs on, the arrays by name, and, as pure functions, what the kernel computes:

  * `row p w`: the row of the projected table `p` that the word `w` names;
  * `acc p ids n k`: the sum of the rows named by the `k` ids from position `n` on, added up one after the other
    from zero, as a vector subcore adds them;
  * `pooled p ids b`: the result array, whose row `r` is that sum over the 200 ids of sample `r`, scaled and with the
    bias added.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.KernelIdeal.Pool

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev 𝒱₀ : Variants := Variants.none
/-- The pipeline's recursion measure on top of the kernels' (none). -/
abbrev 𝒱 : Variants := 𝒱₀.lift
abbrev v₀ : 𝒱.V := Sum.inl none

theorem nSub_zero : (K (F := F)).nSub 0 = 16 := rfl
theorem nCore_zero : (K (F := F)).nCore 0 = 2 := rfl

/-- The launch's own semaphores are distinct and none is scoped to a task; no shared buffer is a task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev tLoc (d : Dev nD) : Loc nD τ sig := (SparseCore.T d).loc main_arg1
abbrev wLoc (d : Dev nD) : Loc nD τ sig := (SparseCore.T d).loc main_arg2
abbrev idLoc (d : Dev nD) : Loc nD τ sig := (SparseCore.T d).loc main_arg0
abbrev bLoc (d : Dev nD) : Loc nD τ sig := (SparseCore.T d).loc main_arg3
abbrev pLoc (d : Dev nD) : Loc nD τ sig := (SparseCore.T d).loc main_v0
abbrev fLoc (d : Dev nD) : Loc nD τ sig := (SparseCore.T d).loc main_v1
abbrev oLoc (d : Dev nD) : Loc nD τ sig := (SparseCore.T d).loc main_v2

/-! ## What the kernel computes -/

/-- Position `n` of the flat id array, a number past its end wrapped round. -/
def flatIx (n : ℕ) : S204800.Idx := ix1 (⟨n % 204800, Nat.mod_lt _ (by decide)⟩ : Fin 204800)

/-- Row `w` of the projected table (a number past its end wrapped round). -/
def row (p : Vec F S100000x16 .f32) (w : BitVec 32) : FVec F S16 .f32 :=
  fun l => p (ix2 (⟨w.toNat % 100000, Nat.mod_lt _ (by decide)⟩ : Fin 100000) (l 0))

/-- Two indices of a matrix with equal coordinates are equal. -/
theorem ext2 {n : Fin 2 → ℕ} {x y : (a : Fin 2) → Fin (n a)} (h0 : (x 0).val = (y 0).val) (h1 : (x 1).val = (y 1).val) : x = y := by
  funext a; apply Fin.ext
  match a with
  | ⟨0, _⟩ => exact h0
  | ⟨1, _⟩ => exact h1

variable [FloatOps F] [Named F]

/-- The sum of the rows that `k` consecutive ids name, from position `n` on: zero, and one row added after the other. -/
def acc (p : Vec F S100000x16 .f32) (ids : Vec F S204800 .i32) (n : ℕ) : ℕ → FVec F S16 .f32
  | 0 => k1_pay1
  | k + 1 => addf (acc p ids n k) (row p (ids (flatIx (n + k))))

/-- One sample's result: the sum of its 200 rows, times the scale, plus the bias. -/
def sample (p : Vec F S100000x16 .f32) (ids : Vec F S204800 .i32) (b : Vec F S16 .f32) (r : ℕ) : FVec F S1x16 .f32 :=
  k1_pay3 b (acc p ids (200 * r) 200)

/-- The result array. -/
def pooled (p : Vec F S100000x16 .f32) (ids : Vec F S204800 .i32) (b : Vec F S16 .f32) : Vec F S1024x16 .f32 :=
  fun i => sample p ids b (i 0).val (ix2 (0 : Fin 1) (i 1))

end Cert.KernelIdeal.Pool

end
-- ==== Proof.Ideal.Tile.lean ====
/-
  One vector subcore's task, at a symbolic pair of SparseCore and subcore.

  Task w of the thirty-two copies in its 6400 ids and the bias, gathers the 6400 rows its ids name, 128 at a time, each gather
  waited for before the next (`inv1`), then for each of its 32 samples adds up 200 rows (`inv3`), scales the sum, adds the bias
  and stores the row (`inv2`), and last copies its 32 rows out. `tile_body` says that its block of the result array then holds
  `pooled`.
-/
module

public import proofs.«01_k».proof.Proof.Ideal.Setup
public import Idealize.ShloMosaic.Lib.ValueLayout

@[expose] public section

noncomputable section

namespace Cert.KernelIdeal.Pool

open Cert.KernelIdeal Cert.KernelIdeal.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! The arrays a task reads and writes, and its scratch buffers, each as a whole. -/

abbrev pV : Memref sig .scVector .hbm S100000x16 .f32 := Memref.whole main_v0_scv
abbrev iV : Memref sig .scVector .hbm S204800 .i32 := Memref.whole main_v1_scv
abbrev bV : Memref sig .scVector .hbm S16 .f32 := Memref.whole main_arg3_scv
abbrev oV : Memref sig .scVector .hbm S1024x16 .f32 := Memref.whole main_v2_scv
abbrev xS : Memref sig .scVector .vmem S6400 .i32 := Memref.whole cc1_scratch0
abbrev rS : Memref sig .scVector .vmem S6400x16 .f32 := Memref.whole cc1_scratch1
abbrev aS : Memref sig .scVector .vmem S32x16 .f32 := Memref.whole cc1_scratch2
abbrev cS : Memref sig .scVector .vmem S16 .f32 := Memref.whole cc1_scratch3

section Tile

variable (d : Dev nD) (L : grid1.Coords)

abbrev cV (L : grid1.Coords) : Fin τ.nSC := (L 0).castLE hcore1
abbrev jV (L : grid1.Coords) : Fin τ.nSub := (L 1).castLE hsub1

/-- The task's number among the thirty-two. -/
def wid (L : grid1.Coords) : Fin 32 :=
  ⟨2 * (L 1).val + (L 0).val, by have h1 : (L 1).val < 16 := (L 1).isLt; have h0 : (L 0).val < 2 := (L 0).isLt; omega⟩

/-- The blocks of 32 rows the result array falls into. -/
theorem odiv : 32 ∣ S1024x16.size 0 := ⟨32, rfl⟩
abbrev orow (w : Fin 32) : Rect S1024x16 := Rect.part (s := S1024x16) (a₀ := 0) odiv w
abbrev oRowSet (w : Fin 32) : Finset S1024x16.Idx := ((oV).view.slice (orow w)).set

abbrev oBlk (L : grid1.Coords) : Memref sig .scVector .hbm S32x16 .f32 :=
  (oV).slice (Rect.unit (s := S1024x16) (k1_off6 L) S32x16.size (k1_off6_inb L)) (fun _ => rfl)

theorem oBlk_rect : Rect.unit (s := S1024x16) (k1_off6 L) S32x16.size (k1_off6_inb L) = orow (wid L) := by
  unfold orow Rect.part Rect.block
  congr 1 <;> funext a
  · rw [k1_off6_eq]
    match a with
    | 0 => simp [Shape.partIx, Shape.partSize, wid]; omega
    | 1 => simp [Shape.partIx, Shape.partSize]
  · match a with
    | 0 => simp [Shape.partSize]
    | 1 => simp [Shape.partSize]

theorem set_oBlk : (oBlk L).view.set = oRowSet (wid L) := by
  show ((oV).view.slice (Rect.unit (s := S1024x16) (k1_off6 L) S32x16.size (k1_off6_inb L))).set = ((oV).view.slice (orow (wid L))).set
  rw [oBlk_rect L]

theorem pts_oBlk (f : Buf (Elt F) (oLoc d)) :
    ((oBlk L).view.loc (V d (cV L) (jV L)) ↦[(oBlk L).view.set]{fullShare} f : sProp 𝕄) = oLoc d ↦[oRowSet (wid L)]{fullShare} f := by
  rw [set_oBlk]
theorem pts_pV (q : PosShare TreeShare) (f : Buf (Elt F) (pLoc d)) :
    ((pV).view.loc (V d (cV L) (jV L)) ↦{q} f : sProp 𝕄) = pLoc d ↦{q} f := rfl
theorem pts_iV (q : PosShare TreeShare) (f : Buf (Elt F) (fLoc d)) :
    ((iV).view.loc (V d (cV L) (jV L)) ↦{q} f : sProp 𝕄) = fLoc d ↦{q} f := rfl
theorem pts_bV (q : PosShare TreeShare) (f : Buf (Elt F) (bLoc d)) :
    ((bV).view.loc (V d (cV L) (jV L)) ↦{q} f : sProp 𝕄) = bLoc d ↦{q} f := rfl
theorem pts_xS (f : Buf (Elt F) ((V d (cV L) (jV L)).loc cc1_scratch0)) :
    ((xS).view.loc (V d (cV L) (jV L)) ↦{fullShare} f : sProp 𝕄) = (V d (cV L) (jV L)).loc cc1_scratch0 ↦{fullShare} f := rfl
theorem pts_rS (f : Buf (Elt F) ((V d (cV L) (jV L)).loc cc1_scratch1)) :
    ((rS).view.loc (V d (cV L) (jV L)) ↦{fullShare} f : sProp 𝕄) = (V d (cV L) (jV L)).loc cc1_scratch1 ↦{fullShare} f := rfl
theorem pts_aS (f : Buf (Elt F) ((V d (cV L) (jV L)).loc cc1_scratch2)) :
    ((aS).view.loc (V d (cV L) (jV L)) ↦{fullShare} f : sProp 𝕄) = (V d (cV L) (jV L)).loc cc1_scratch2 ↦{fullShare} f := rfl
theorem pts_cS (f : Buf (Elt F) ((V d (cV L) (jV L)).loc cc1_scratch3)) :
    ((cS).view.loc (V d (cV L) (jV L)) ↦{fullShare} f : sProp 𝕄) = (V d (cV L) (jV L)).loc cc1_scratch3 ↦{fullShare} f := rfl

abbrev cell (d : Dev nD) (L : grid1.Coords) (s : DmaSem sig) : GSem nD τ sig := (V d (cV L) (jV L), .dma s)

/-- The task's four counters are among the subcore's own: they are them, and the rest. -/
theorem ownSems0_V :
    (ownSems0 (V d (cV L) (jV L)) : sProp 𝕄)
      = iprop(semVal (cell d L cc1_scoped0.sem) 0 ∗ semVal (cell d L cc1_scoped1.sem) 0 ∗ semVal (cell d L cc1_scoped2.sem) 0
          ∗ semVal (cell d L cc1_scratch4.sem) 0
          ∗ bigSep (((((ownCells (V d (cV L) (jV L))).erase (cell d L cc1_scoped0.sem)).erase (cell d L cc1_scoped1.sem)).erase
              (cell d L cc1_scoped2.sem)).erase (cell d L cc1_scratch4.sem)) fun g => semVal g 0) := by
  have hmem : ∀ s : DmaSem sig, (SemLoc.dma s : SemLoc sig).isScoped .scVector = true → cell d L s ∈ ownCells (V d (cV L) (jV L)) :=
    fun s hs => (mem_ownCells (g := cell d L s)).mpr ⟨rfl, hs⟩
  have hne : ∀ s t : DmaSem sig, s ≠ t → cell d L s ≠ cell d L t := fun s t h e => h (by simpa [cell] using e)
  unfold SparseCore.Cfg.ownSems0
  rw [SparseCore.bigSep_erase' (hmem cc1_scoped0.sem (by decide)),
    SparseCore.bigSep_erase' (Finset.mem_erase.mpr ⟨hne _ _ (by decide), hmem cc1_scoped1.sem (by decide)⟩),
    SparseCore.bigSep_erase' (Finset.mem_erase.mpr ⟨hne _ _ (by decide), Finset.mem_erase.mpr ⟨hne _ _ (by decide), hmem cc1_scoped2.sem (by decide)⟩⟩),
    SparseCore.bigSep_erase' (Finset.mem_erase.mpr ⟨hne _ _ (by decide), Finset.mem_erase.mpr ⟨hne _ _ (by decide),
      Finset.mem_erase.mpr ⟨hne _ _ (by decide), hmem cc1_scratch4.sem (by decide)⟩⟩⟩)]

/-- The task's four scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have hne : ∀ s t : Ref sig .scVector, s ≠ t → (Proc.scVector (cV L) (jV L)).devRef s ≠ (Proc.scVector (cV L) (jV L)).devRef t :=
    fun s t h e => h (Proc.devRef_injective _ e)
  have m0 := SparseCore.Cfg.mem_ownRefs_of_owner (p := Proc.scVector (cV L) (jV L)) (b := (Proc.scVector (cV L) (jV L)).devRef cc1_scratch0) rfl
  have m1 := SparseCore.Cfg.mem_ownRefs_of_owner (p := Proc.scVector (cV L) (jV L)) (b := (Proc.scVector (cV L) (jV L)).devRef cc1_scratch1) rfl
  have m2 := SparseCore.Cfg.mem_ownRefs_of_owner (p := Proc.scVector (cV L) (jV L)) (b := (Proc.scVector (cV L) (jV L)).devRef cc1_scratch2) rfl
  have m3 := SparseCore.Cfg.mem_ownRefs_of_owner (p := Proc.scVector (cV L) (jV L)) (b := (Proc.scVector (cV L) (jV L)).devRef cc1_scratch3) rfl
  unfold SparseCore.Cfg.ownBufs
  refine (SparseCore.bigSep_erase' m0).trans ?_
  rw [SparseCore.bigSep_erase' (Finset.mem_erase.mpr ⟨hne _ _ (by decide), m1⟩),
    SparseCore.bigSep_erase' (Finset.mem_erase.mpr ⟨hne _ _ (by decide), Finset.mem_erase.mpr ⟨hne _ _ (by decide), m2⟩⟩),
    SparseCore.bigSep_erase' (Finset.mem_erase.mpr ⟨hne _ _ (by decide), Finset.mem_erase.mpr ⟨hne _ _ (by decide),
      Finset.mem_erase.mpr ⟨hne _ _ (by decide), m3⟩⟩⟩)]

variable [FloatOps F] [Named F]

/-- What a task is handed: a share of the projected table, of the flat ids and of the bias, and its block of the result. -/
def goRes (p : Buf (Elt F) (pLoc d)) (ids : Buf (Elt F) (fLoc d)) (b : Buf (Elt F) (bLoc d)) (o : Buf (Elt F) (oLoc d))
    (q : PosShare TreeShare) (w : Fin 32) : sProp 𝕄 :=
  iprop((pLoc d ↦{q} p) ∗ (fLoc d ↦{q} ids) ∗ (bLoc d ↦{q} b) ∗ oLoc d ↦[oRowSet w]{fullShare} o)

/-- The flat ids are in range. -/
def IdsOK (ids : Vec F S204800 .i32) : Prop := ∀ j, (ids j).toNat < 100000

/-- The task's list of ids: 6400 consecutive ones of the flat array. -/
def xlist (ids : Vec F S204800 .i32) (w : ℕ) : Vec F S6400 .i32 := fun j => ids (flatIx (6400 * w + (j 0).val))

/-- After `k` trips of the gathering loop, the first `128 k` rows of the row scratch are the rows the list names. -/
def inv1 (p : Buf (Elt F) (pLoc d)) (ids : Buf (Elt F) (fLoc d)) (q : PosShare TreeShare)
    (O : CellTallies nD τ sig (HIx 1)) (W : Waits sig (HIx 1)) (k : ℕ) (_ : Unit) : sProp 𝕄 :=
  iprop(Transfers.MayWaits (V d (cV L) (jV L)) (default : HIx 1) O
    ∗ ((pV).view.loc (V d (cV L) (jV L)) ↦{q} p)
    ∗ ((xS).view.loc (V d (cV L) (jV L)) ↦{fullShare} (xlist (F := F) ids (wid L)))
    ∗ (∃ fr : Vec F S6400x16 .f32, ⌜∀ (n : Fin 6400) (l : Fin 16), n.val < 128 * k →
          fr (ix2 n l) = row (F := F) p (ids (flatIx (6400 * (wid L).val + n.val))) (ix1 l)⌝
        ∗ (rS).view.loc (V d (cV L) (jV L)) ↦{fullShare} fr)
    ∗ semVal (cell d L cc1_scratch4.sem) 0
    ∗ ∃ W', ⌜∀ x ∈ W', x ∈ W ∨ x.2 = none⌝ ∗ owes (V d (cV L) (jV L)) O W')

theorem list_landed (ids : Buf (Elt F) (fLoc d)) (fx : Buf (Elt F) ((V d (cV L) (jV L)).loc cc1_scratch0)) (pay : S6400.Idx → Elt F .i32)
    (hpay : pay = ((iV).slice (Rect.unit (s := S204800) (k1_off1 L) S6400.size (k1_off1_inb L)) (fun _ => rfl)).view.read (Elt F) ids) :
    View.write (Elt F) (xS).view fx pay Finset.univ = xlist (F := F) ids (wid L) := by
  subst hpay
  rw [View.write_whole_univ]
  funext j
  refine (View.read_apply _ _).trans ((cast_eq _ _).trans ?_)
  unfold xlist
  refine congrArg ids ?_
  funext a
  match a with
  | 0 =>
    apply Fin.ext
    have h : (j 0).val < 6400 := (j 0).isLt
    have h1 : (L 1).val < 16 := (L 1).isLt
    have h0 : (L 0).val < 2 := (L 0).isLt
    show (k1_off1 L) 0 + 1 * (j 0).val = (6400 * (wid L).val + (j 0).val) % 204800
    rw [congrFun (k1_off1_eq L) 0]
    show (12800 * (L 1).val + 6400 * (L 0).val) + 1 * (j 0).val = (6400 * (2 * (L 1).val + (L 0).val) + (j 0).val) % 204800
    omega

theorem list_inb (ids : Buf (Elt F) (fLoc d)) (hids : IdsOK (F := F) ids) (w : ℕ) (t : Fin k1_t1_loop.trips) :
    ∀ x, (((xS).slice (Rect.unit (s := S6400) (k1_off3 t) S128.size (k1_off3_inb t)) (fun _ => rfl)).view.read (Elt F)
      (xlist (F := F) ids w) x).toNat < S100000x16.size gathers_S100000x16_S128x16.axis := by
  intro x
  rw [View.read_apply, cast_eq]
  exact hids _

/-- The gather's payload: its row `n` is the row of the table the `n`-th word of the trip's list names. -/
theorem gather_apply (p : Buf (Elt F) (pLoc d)) (ids : Buf (Elt F) (fLoc d)) (hids : IdsOK (F := F) ids) (w : ℕ) (t : Fin k1_t1_loop.trips)
    (hn : S128.numel = S128x16.size gathers_S100000x16_S128x16.axis')
    (h : ∀ x, (((xS).slice (Rect.unit (s := S6400) (k1_off3 t) S128.size (k1_off3_inb t)) (fun _ => rfl)).view.read (Elt F)
      (xlist (F := F) ids w) x).toNat < S100000x16.size gathers_S100000x16_S128x16.axis) (n : Fin 128) (l : Fin 16) :
    SparseCore.gatherPayload (F := F) gathers_S100000x16_S128x16
      (((pV).slice (Rect.unit (s := S100000x16) ![0, 0] S100000x16.size inb_S100000x16_S100000x16_0_0) (fun _ => rfl)).view.read (Elt F) p)
      (SparseCore.rows (F := F) _ hn h) (ix2 n l)
      = row (F := F) p (ids (flatIx (6400 * w + (128 * t.val + n.val)))) (ix1 l) := by
  have hrow : (S128.rowMajor.symm (n.cast rfl : Fin S128.numel)) = (ix1 n : S128.Idx) := by
    rw [Equiv.symm_apply_eq]; apply Fin.ext; rw [Shape.rowMajor_val_one]; rfl
  have hval : ((SparseCore.rows (F := F) _ hn h) n).val = (ids (flatIx (6400 * w + (128 * t.val + n.val)))).toNat := by
    refine (congrArg (fun z => (((xS).slice (Rect.unit (s := S6400) (k1_off3 t) S128.size (k1_off3_inb t)) (fun _ => rfl)).view.read (Elt F)
      (xlist (F := F) ids w) z).toNat) hrow).trans ?_
    show (View.read (Elt F) ((xS).slice (Rect.unit (s := S6400) (k1_off3 t) S128.size (k1_off3_inb t)) (fun _ => rfl)).view
      (xlist (F := F) ids w) (ix1 n)).toNat = _
    rw [View.read_apply, cast_eq]
    show (ids (flatIx (6400 * w + ((k1_off3 t) 0 + 1 * n.val)))).toNat = _
    rw [congrFun (k1_off3_eq t) 0]
    show (ids (flatIx (6400 * w + (128 * t.val + 1 * n.val)))).toNat = _
    rw [Nat.one_mul]
  unfold SparseCore.gatherPayload row
  rw [View.read_apply, cast_eq]
  refine congrArg p (ext2 ?_ ?_)
  · show 0 + 1 * ((SparseCore.rows (F := F) _ hn h) n).val = _
    rw [hval]
    show _ = (ids (flatIx (6400 * w + (128 * t.val + n.val)))).toNat % 100000
    have := hids (flatIx (6400 * w + (128 * t.val + n.val)))
    omega
  · show 0 + 1 * l.val = l.val
    omega

/-- What a gather leaves in the row scratch: the trip's 128 rows written, the others as they were. -/
theorem gathered (p : Buf (Elt F) (pLoc d)) (ids : Buf (Elt F) (fLoc d)) (w : ℕ) (t : Fin k1_t1_loop.trips)
    (fr : Vec F S6400x16 .f32)
    (hfr : ∀ (n : Fin 6400) (l : Fin 16), n.val < 128 * t.val → fr (ix2 n l) = row (F := F) p (ids (flatIx (6400 * w + n.val))) (ix1 l))
    (g : S128x16.Idx → Elt F .f32)
    (hg : ∀ (n : Fin 128) (l : Fin 16), g (ix2 n l) = row (F := F) p (ids (flatIx (6400 * w + (128 * t.val + n.val)))) (ix1 l))
    (n : Fin 6400) (l : Fin 16) (hn : n.val < 128 * (t.val + 1)) :
    View.write (Elt F) ((rS).slice (Rect.unit (s := S6400x16) (k1_off2 t) S128x16.size (k1_off2_inb t)) (fun _ => rfl)).view fr g Finset.univ
      (ix2 n l) = row (F := F) p (ids (flatIx (6400 * w + n.val))) (ix1 l) := by
  have o0 : (k1_off2 t) 0 = 128 * t.val := congrFun (k1_off2_eq t) 0
  have o1 : (k1_off2 t) 1 = 0 := congrFun (k1_off2_eq t) 1
  by_cases h : n.val < 128 * t.val
  · refine (View.write_of_not_mem _ _ _ (fun hm => ?_)).trans (hfr n l h)
    · obtain ⟨x, -, hx⟩ := Finset.mem_map.mp hm
      have h0 : (k1_off2 t) 0 + 1 * (x 0).val = n.val := congrArg (fun z : S6400x16.Idx => (z 0).val) hx
      omega
  · have hx : (ix2 n l : S6400x16.Idx) = ((rS).slice (Rect.unit (s := S6400x16) (k1_off2 t) S128x16.size (k1_off2_inb t)) (fun _ => rfl)).view.emb
        (ix2 (⟨n.val - 128 * t.val, by omega⟩ : Fin 128) l) := by
      refine ext2 ?_ ?_
      · show n.val = (k1_off2 t) 0 + 1 * (n.val - 128 * t.val)
        omega
      · show l.val = (k1_off2 t) 1 + 1 * l.val
        omega
    rw [hx, View.write_emb_of_mem _ _ (Finset.mem_univ _), cast_eq, hg]
    congr 4
    show 128 * t.val + (n.val - 128 * t.val) = n.val
    omega

theorem bias_landed (b : Buf (Elt F) (bLoc d)) (fc : Buf (Elt F) ((V d (cV L) (jV L)).loc cc1_scratch3)) :
    View.readAt (Elt F) (cS).view (Rect.unit ![0] S16.size inb_S16_S16_0).toLoadRect
      (View.write (Elt F) (cS).view fc ((bV).view.read (Elt F) b) Finset.univ) = b := by
  rw [View.write_whole_univ]
  funext j
  rw [View.readAt_apply]
  refine (cast_eq _ _).trans (congrArg b ?_)
  funext a
  match a with
  | ⟨0, _⟩ => apply Fin.ext; show 0 + 1 * (j 0).val = (j 0).val; omega

/-- Inside a sample: after `k` trips the accumulator is the sum of the sample's first `k` rows. -/
def inv3 (p : Buf (Elt F) (pLoc d)) (ids : Buf (Elt F) (fLoc d)) (fr : Vec F S6400x16 .f32) (r : ℕ) (k : ℕ) (a : FVec F S16 .f32) : sProp 𝕄 :=
  iprop(⌜a = acc (F := F) p ids (200 * r) k⌝ ∗ ((rS).view.loc (V d (cV L) (jV L)) ↦{fullShare} fr))

/-- After `k` samples, the first `k` rows of the result scratch are theirs. -/
def inv2 (p : Buf (Elt F) (pLoc d)) (ids : Buf (Elt F) (fLoc d)) (b : Buf (Elt F) (bLoc d)) (fr : Vec F S6400x16 .f32) (k : ℕ) (_ : Unit) : sProp 𝕄 :=
  iprop(((rS).view.loc (V d (cV L) (jV L)) ↦{fullShare} fr)
    ∗ ∃ fa : Vec F S32x16 .f32, ⌜∀ (s : Fin 32) (l : Fin 16), s.val < k →
        fa (ix2 s l) = sample (F := F) p ids b (32 * (wid L).val + s.val) (ix2 (0 : Fin 1) l)⌝
      ∗ (aS).view.loc (V d (cV L) (jV L)) ↦{fullShare} fa)

theorem trips1 : Scf.trips k1_t1_loop.lb k1_t1_loop.ub k1_t1_loop.st = 50 := by decide
theorem trips2 : Scf.trips k1_t2_loop.lb k1_t2_loop.ub k1_t2_loop.st = 32 := by decide
theorem trips3 : Scf.trips k1_t3_loop.lb k1_t3_loop.ub k1_t3_loop.st = 200 := by decide

/-- One trip's addition: the row the accumulator loop loads is the next id's. -/
theorem acc_step (p : Buf (Elt F) (pLoc d)) (ids : Buf (Elt F) (fLoc d)) (fr : Vec F S6400x16 .f32)
    (hfr : ∀ (n : Fin 6400) (l : Fin 16), n.val < 128 * 50 → fr (ix2 n l) = row (F := F) p (ids (flatIx (6400 * (wid L).val + n.val))) (ix1 l))
    (k : Fin k1_t2_loop.trips) (j : Fin k1_t3_loop.trips) :
    k1_pay2 (F := F) (acc (F := F) p ids (200 * (32 * (wid L).val + k.val)) j.val)
      (View.readAt (Elt F) (rS).view (Rect.unit (s := S6400x16) (k1_off4 k j) S1x16.size (k1_off4_inb k j)).toLoadRect fr)
      = acc (F := F) p ids (200 * (32 * (wid L).val + k.val)) (j.val + 1) := by
  have hk : k.val < 32 := Nat.lt_of_lt_of_eq k.isLt trips2
  have hj : j.val < 200 := Nat.lt_of_lt_of_eq j.isLt trips3
  have o0 : (k1_off4 k j) 0 = 200 * k.val + j.val := congrFun (k1_off4_eq k j) 0
  have o1 : (k1_off4 k j) 1 = 0 := congrFun (k1_off4_eq k j) 1
  unfold k1_pay2
  show addf _ _ = addf _ _
  refine congrArg (addf _) ?_
  funext l
  obtain ⟨l, rfl⟩ : ∃ l' : Fin 16, l = ix1 l' := ⟨l 0, eq_ix1 l⟩
  refine (shapeCast_1a_a_apply _ _ _).trans ?_
  rw [View.readAt_apply]
  refine (cast_eq _ _).trans ?_
  refine (congrArg fr (a₂ := ix2 (⟨200 * k.val + j.val, by omega⟩ : Fin 6400) l) (ext2 ?_ ?_)).trans ?_
  · show (k1_off4 k j) 0 + 1 * 0 = 200 * k.val + j.val
    omega
  · show (k1_off4 k j) 1 + 1 * l.val = l.val
    omega
  · rw [hfr (⟨200 * k.val + j.val, by omega⟩ : Fin 6400) l (show 200 * k.val + j.val < 128 * 50 by omega)]
    congr 3
    show 6400 * (wid L).val + (200 * k.val + j.val) = 200 * (32 * (wid L).val + k.val) + j.val
    omega

/-- Storing a sample's row into the result scratch. -/
theorem stored (p : Buf (Elt F) (pLoc d)) (ids : Buf (Elt F) (fLoc d)) (b : Buf (Elt F) (bLoc d)) (fa : Vec F S32x16 .f32) (k : Fin k1_t2_loop.trips)
    (hfa : ∀ (s : Fin 32) (l : Fin 16), s.val < k.val → fa (ix2 s l) = sample (F := F) p ids b (32 * (wid L).val + s.val) (ix2 (0 : Fin 1) l))
    (s : Fin 32) (l : Fin 16) (hs : s.val < k.val + 1) :
    (aS).view.writes (Elt F) fa [⟨Rect.unit (s := S32x16) (k1_off5 k) S1x16.size (k1_off5_inb k), sample (F := F) p ids b (32 * (wid L).val + k.val)⟩] (ix2 s l)
      = sample (F := F) p ids b (32 * (wid L).val + s.val) (ix2 (0 : Fin 1) l) := by
  have o0 : (k1_off5 k) 0 = k.val := congrFun (k1_off5_eq k) 0
  have o1 : (k1_off5 k) 1 = 0 := congrFun (k1_off5_eq k) 1
  show View.write (Elt F) ((aS).view.slice (Rect.unit (s := S32x16) (k1_off5 k) S1x16.size (k1_off5_inb k))) fa
    (sample (F := F) p ids b (32 * (wid L).val + k.val)) Finset.univ (ix2 s l) = _
  by_cases h : s.val < k.val
  · refine (View.write_of_not_mem _ _ _ (fun hm => ?_)).trans (hfa s l h)
    obtain ⟨x, -, hx⟩ := Finset.mem_map.mp hm
    have h0 : (k1_off5 k) 0 + 1 * (x 0).val = s.val := congrArg (fun z : S32x16.Idx => (z 0).val) hx
    omega
  · have hx : (ix2 s l : S32x16.Idx) = ((aS).view.slice (Rect.unit (s := S32x16) (k1_off5 k) S1x16.size (k1_off5_inb k))).emb (ix2 (0 : Fin 1) l) := by
      refine ext2 ?_ ?_
      · show s.val = (k1_off5 k) 0 + 1 * 0
        omega
      · show l.val = (k1_off5 k) 1 + 1 * l.val
        omega
    rw [hx, View.write_emb_of_mem _ _ (Finset.mem_univ _), cast_eq, show s.val = k.val by omega]

/-- What the write-out leaves in the task's block of the result. -/
theorem written (p : Buf (Elt F) (pLoc d)) (ids : Buf (Elt F) (fLoc d)) (b : Buf (Elt F) (bLoc d)) (o : Buf (Elt F) (oLoc d)) (fa : Vec F S32x16 .f32)
    (hfa : ∀ (s : Fin 32) (l : Fin 16), s.val < 32 → fa (ix2 s l) = sample (F := F) p ids b (32 * (wid L).val + s.val) (ix2 (0 : Fin 1) l)) :
    ∀ i ∈ (oBlk L).view.set, (oBlk L).view.writes (Elt F) o [⟨Rect.whole S32x16, (aS).view.read (Elt F) fa⟩] i = pooled (F := F) p ids b i := by
  intro i hi
  obtain ⟨x, -, rfl⟩ := Finset.mem_map.mp hi
  obtain ⟨s, l, rfl⟩ : ∃ (s : Fin 32) (l : Fin 16), x = (ix2 s l : S32x16.Idx) := ⟨x 0, x 1, eq_ix2 x⟩
  have o0 : (k1_off6 L) 0 = 64 * (L 1).val + 32 * (L 0).val := congrFun (k1_off6_eq L) 0
  have o1 : (k1_off6 L) 1 = 0 := congrFun (k1_off6_eq L) 1
  have e : (oBlk L).view.emb (ix2 s l) = ((oBlk L).view.slice (Rect.whole S32x16)).emb (ix2 s l) := by
    rw [View.emb_slice]
    refine congrArg (oBlk L).view.emb (ext2 ?_ ?_)
    · show s.val = 0 + 1 * s.val
      omega
    · show l.val = 0 + 1 * l.val
      omega
  show View.write (Elt F) ((oBlk L).view.slice (Rect.whole S32x16)) o _ Finset.univ _ = _
  rw [e, View.write_emb_of_mem _ _ (Finset.mem_univ _), cast_eq, ← e]
  show fa (ix2 s l) = _
  rw [hfa s l s.isLt]
  unfold pooled
  have h0 : 32 * (wid L).val + s.val = ((oBlk L).view.emb (ix2 s l) (0 : Fin 2)).val := by
    show 32 * (2 * (L 1).val + (L 0).val) + s.val = (k1_off6 L) 0 + 1 * s.val
    omega
  have h1 : l = (oBlk L).view.emb (ix2 s l) (1 : Fin 2) := by
    apply Fin.ext
    show l.val = (k1_off6 L) 1 + 1 * l.val
    omega
  rw [h0]
  exact congrArg (fun z => sample (F := F) p ids b _ (ix2 (0 : Fin 1) z)) h1

set_option maxHeartbeats 4000000 in
/-- The task, run: it ends with its block of the result at `pooled`, what it read as it was, its counters at zero. -/
theorem tile_body (hF : (K (F := F)).Facts) (p : Buf (Elt F) (pLoc d)) (ids : Buf (Elt F) (fLoc d)) (b : Buf (Elt F) (bLoc d))
    (o : Buf (Elt F) (oLoc d)) (q : PosShare TreeShare) (hids : IdsOK (F := F) ids)
    (O : CellTallies nD τ sig (HIx 1)) (W : Waits sig (HIx 1)) (hO : ∀ g, O g none = 0) :
    iprop(levAts (K (F := F)).L (K (F := F)).lev ∗ emp ∗ goRes d p ids b o q (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_pool L pV (Memref.isWhole_whole _) iV (Memref.isWhole_whole _) bV (Memref.isWhole_whole _) oV (Memref.isWhole_whole _)
            xS (Memref.isWhole_whole _) rS (Memref.isWhole_whole _) aS (Memref.isWhole_whole _) cS (Memref.isWhole_whole _)
            cc1_scratch4 cc1_scoped0 cc1_scoped1 cc1_scoped2)
          fun _ => iprop(goRes d p ids b (pooled p ids b) q (wid L)
            ∗ scopedBufs (V d (cV L) (jV L)) ∗ scopedSems0 (V d (cV L) (jV L))
            ∗ ∃ W', ⌜∀ x ∈ W', x ∈ W ∨ x.2 = none⌝ ∗ owes (V d (cV L) (jV L)) O W') := by
  simp only [cc1__sc_pool_eq_skeleton]; unfold cc1__sc_pool_skel goRes
  rw [(K (F := F)).scopedBufs_V hF d (cV L) (jV L), SparseCore.Cfg.scopedSems0_V (Val := Elt F) d (cV L) (jV L), ownSems0_V, ownBufs_V]
  iintro ⟨#Hlv, -, ⟨Hp, Hi, Hb, Ho⟩, ⟨⟨%fx, Hx⟩, ⟨%fr, Hr⟩, ⟨%fa, Ha⟩, ⟨%fc, Hc⟩, Hbufs⟩, ⟨HsemA, HsemB, HsemC, HsemG, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oBlk (F := F) d L _).symm) $$ Ho
  ihave Hp' := (Entails.of_eq (pts_pV (F := F) d L _ _).symm) $$ Hp
  ihave Hi' := (Entails.of_eq (pts_iV (F := F) d L _ _).symm) $$ Hi
  ihave Hb' := (Entails.of_eq (pts_bV (F := F) d L _ _).symm) $$ Hb
  ihave Hx' := (Entails.of_eq (pts_xS (F := F) d L _).symm) $$ Hx
  ihave Hr' := (Entails.of_eq (pts_rS (F := F) d L _).symm) $$ Hr
  ihave Ha' := (Entails.of_eq (pts_aS (F := F) d L _).symm) $$ Ha
  ihave Hc' := (Entails.of_eq (pts_cS (F := F) d L _).symm) $$ Hc
  sl_exec
  ihave Hx2 := (Entails.of_eq (show ((xS).view.loc (V d (cV L) (jV L)) ↦{fullShare}
      View.write (Elt F) (xS).view fx (tile_body.sl.dma0 d L ids) Finset.univ : sProp 𝕄)
      = ((xS).view.loc (V d (cV L) (jV L)) ↦{fullShare} (xlist (F := F) ids (wid L))) from
    congrArg _ (list_landed d L ids fx _ rfl))) $$ Hx'
  sl_for (inv1 d L p ids q O W) $$ [Hp' Hx2 Hr' HsemG HO Hmw]
  case region =>
    intro k _
    unfold inv1
    iintro ⟨#Hmw, Hp, Hx, ⟨%fr, %hfr, Hr⟩, Hsem, %W', %hW', HO⟩
    have hin := list_inb d ids hids (wid L) k
    sl_exec
    sl_step
    isplitr; · iexact Hmw
    isplitl [Hp]; · iexact Hp
    isplitl [Hx]; · iexact Hx
    isplitl [Hr]
    · iexists (tile_body.sl.Hr_w0 d L p ids k fr hin); isplitr
      · ipureintro
        exact gathered d p ids (wid L) k fr hfr _ (gather_apply d p ids hids (wid L) k _ _)
      · iexact Hr
    isplitl [Hsem]; · iexact Hsem
    iexists _; isplitr
    swap; · iexact HO
    ipureintro; intro x hx
    rcases Finset.mem_insert.mp hx with hx | hx; · exact .inr (hx ▸ rfl)
    exact hW' x hx
  · unfold inv1
    isplitr; · iexact Hmw
    isplitl [Hp']; · iexact Hp'
    isplitl [Hx2]; · iexact Hx2
    isplitl [Hr']
    · iexists fr; isplitr
      · ipureintro; intro n l h; exact absurd h (by omega)
      · iexact Hr'
    isplitl [HsemG]; · iexact HsemG
    iexists _; isplitr
    swap; · iexact HO
    ipureintro; intro x hx
    rcases Finset.mem_insert.mp hx with hx | hx; · exact .inr (hx ▸ rfl)
    rcases Finset.mem_insert.mp hx with hx | hx; · exact .inr (hx ▸ rfl)
    exact .inl hx
  iintro %_ HI
  unfold inv1
  icases HI with ⟨#Hmw, Hp', Hx', ⟨%fr, %hfr, Hr'⟩, HsemG, %W', %hW', HO⟩
  rw [trips1] at hfr
  sl_exec
  rw [show View.readAt (Elt F) (cS).view (Rect.unit ![0] S16.size inb_S16_S16_0).toLoadRect
      (View.write (Elt F) (cS).view fc (tile_body.sl.dma0_1 d b) Finset.univ) = b from bias_landed d L b fc]
  sl_for (inv2 d L p ids b fr) $$ [Hr' Ha']
  case region =>
    intro k _
    unfold inv2
    iintro ⟨Hr, %fa, %hfa, Ha⟩
    sl_exec
    sl_for (inv3 d L p ids fr (32 * (wid L).val + k.val)) $$ [Hr]
    case region =>
      intro j a
      unfold inv3
      iintro ⟨%ha, Hr⟩
      sl_exec
      sl_step
      isplitr
      · ipureintro; rw [ha]; exact acc_step d L p ids fr hfr k j
      iexact Hr
    · unfold inv3
      isplitr
      · ipureintro; rfl
      iexact Hr
    iintro %a HI
    unfold inv3
    icases HI with ⟨%ha, Hr⟩
    rw [trips3] at ha
    subst ha
    sl_exec
    sl_step
    isplitl [Hr]; · iexact Hr
    iexists _; isplitr
    swap; · iexact Ha
    ipureintro; exact stored d L p ids b fa k hfa
  · unfold inv2
    isplitl [Hr']; · iexact Hr'
    iexists fa; isplitr
    · ipureintro; intro s l h; exact absurd h (by omega)
    iexact Ha'
  iintro %_ HI
  unfold inv2
  icases HI with ⟨Hr', %fa, %hfa, Ha'⟩
  rw [trips2] at hfa
  sl_exec
  sl_step
  isplitl [Hp' Hi' Hb' Ho']
  · isplitl [Hp']; · iexact Hp'
    isplitl [Hi']; · iexact Hi'
    isplitl [Hb']; · iexact Hb'
    iapply (Entails.of_eq (pts_oBlk (F := F) d L _))
    iapply (Entails.of_eq (pointsTo_congr (written d L p ids b o fa hfa)))
    iexact Ho'
  isplitl [Hx' Hr' Ha' Hc' Hbufs]
  · isplitl [Hx']; · iexists _; iexact Hx'
    isplitl [Hr']; · iexists _; iexact Hr'
    isplitl [Ha']; · iexists _; iexact Ha'
    isplitl [Hc']; · iexists _; iexact Hc'
    iexact Hbufs
  isplitl [HsemA HsemB HsemC HsemG Hsems]
  · isplitl [HsemA]; · iexact HsemA
    isplitl [HsemB]; · iexact HsemB
    isplitl [HsemC]; · iexact HsemC
    isplitl [HsemG]; · iexact HsemG
    iexact Hsems
  iexists _; isplitr
  swap; · iexact HO
  ipureintro; intro x hx
  rcases Finset.mem_insert.mp hx with hx | hx; · exact .inr (hx ▸ rfl)
  exact hW' x hx

end Tile

end Cert.KernelIdeal.Pool

end
-- ==== Proof.Ideal.Project.lean ====
/-
  The TensorCore call: the table is multiplied by the weights, 2000 rows at a time.

  * `block t k`: rows 2000 k to 2000 k + 1999 of the table;
  * `proj t w`: the projected table, whose row `r` is row `r mod 2000` of the product of the block holding `r` with
    the weights;
  * `projected`: what the pipeline's write-backs leave in the result array is `proj`;
  * `region`: the call as a segment of the program, entered with the table, the weights and the result array held
    whole, left with the first two as they were and the third at `proj`. What the core owes the launch is carried
    through: the pipeline's own waits sit below it.
-/
module

public import proofs.«01_k».proof.Proof.Ideal.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.Regions
public import Idealize.ShloMosaic.Lib.Claim
public import Idealize.ShloMosaic.Lib.Ring
public import Idealize.ShloMosaic.Lib.WordCmp

@[expose] public section

set_option maxRecDepth 16384

noncomputable section

namespace Cert.KernelIdeal.Pool

open Cert.KernelIdeal Cert.KernelIdeal.Gen

open Idealize.ShloMosaic Idealize.ShloMosaic.TcCoe Idealize.ShloMosaic.Tactic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 1) (Elt F) ℕ UU ℕ

/-! ## The values -/

/-- Rows 2000 k to 2000 k + 1999 of the table (a row past its end wrapped round). -/
def block (t : Vec F S100000x128 .f32) (k : ℕ) : Vec F S2000x128 .f32 :=
  fun i => t (ix2 (⟨(2000 * k + (i 0).val) % 100000, Nat.mod_lt _ (by decide)⟩ : Fin 100000) (i 1))

/-- The projected table. -/
def proj (t : Vec F S100000x128 .f32) (w : Vec F S16x128 .f32) : Vec F S100000x16 .f32 :=
  fun i => k0_pay1 (block t ((i 0).val / 2000)) w (ix2 (⟨(i 0).val % 2000, Nat.mod_lt _ (by decide)⟩ : Fin 2000) (i 1))

/-! ## One grid point -/

abbrev rT : Rect S2000x128 := Rect.unit (s := S2000x128) ![0, 0] S2000x128.size inb_S2000x128_S2000x128_0_0
abbrev rW : Rect S16x128 := Rect.unit (s := S16x128) ![0, 0] S16x128.size inb_S16x128_S16x128_0_0
abbrev rP : Rect S2000x16 := Rect.unit (s := S2000x16) ![0, 0] S2000x16.size inb_S2000x16_S2000x16_0_0

/-- What the body leaves in the result's staging buffer: one store of the whole. -/
def left (x : Vec F S2000x128 .f32) (w : Vec F S16x128 .f32) : Vec F S2000x16 .f32 :=
  View.canon [⟨rP, k0_pay1 (View.ld x rT) (View.ld w rW)⟩]

theorem left_eq (x : Vec F S2000x128 .f32) (w : Vec F S16x128 .f32) : left x w = k0_pay1 x w := by
  have hz : (![0, 0] : Fin 2 → Nat) = fun _ => 0 := by funext a; match a with | ⟨0, _⟩ => rfl | ⟨1, _⟩ => rfl
  unfold left
  rw [View.canon_unit_zero hz, View.ld_unit_zero hz, View.ld_unit_zero hz]

theorem store_covers (v : Vec F S2000x16 .f32) (y : S2000x16.Idx) :
    ∃ pc ∈ ([⟨rP, v⟩] : List (View.Piece (Elt F) S2000x16 .f32)), y ∈ pc.1.set :=
  View.cover_of_tiled [⟨rP, v⟩] S2000x16.size (by rfl) y

set_option maxHeartbeats 1000000 in
/-- The body on three whole staging buffers: the first two are read, the third ends at their product. -/
theorem point_body (d : Dev nD) (E : Set ℕ) (i : grid0.Coords)
    (a : Memref sig .tc .vmem S2000x128 .f32) (ha : a.IsWhole) (b : Memref sig .tc .vmem S16x128 .f32) (hb : b.IsWhole)
    (o : Memref sig .tc .vmem S2000x16 .f32) (ho : o.IsWhole)
    (x : Vec F S2000x128 .f32) (w : Vec F S16x128 .f32) (Q : PUnit → sProp 𝕄) :
    iprop(owns (d : Thread nD τ) a fullShare x ∗ owns (d : Thread nD τ) b fullShare w ∗ (∃ z, owns (d : Thread nD τ) o fullShare z)
        ∗ (iprop(owns (d : Thread nD τ) a fullShare x ∗ owns (d : Thread nD τ) b fullShare w
            ∗ owns (d : Thread nD τ) o fullShare (left x w)) -∗ Q ⟨⟩))
      ⊢ wp frame (wpE (defs₀ (F := F)) 𝒱₀ d none) E (cc0__proj_body i a ha b hb o ho) Q := by
  simp only [cc0__proj_body_eq_skeleton]; unfold cc0__proj_body_skel
  unfold owns
  iintro ⟨⟨%f, %hf, Ha⟩, ⟨%g, %hg, Hb⟩, ⟨%z, %h, -, Ho⟩, Hk⟩
  subst hf hg
  sl_exec
  sl_step
  iapply Hk
  isplitl [Ha]
  · iexists f; isplitr; · ipureintro; rfl
    iexact Ha
  isplitl [Hb]
  · iexists g; isplitr; · ipureintro; rfl
    iexact Hb
  iexists _; isplitr
  swap; · iexact Ho
  ipureintro
  exact View.read_writes_eq_canon _ _ _ (store_covers _)

/-! ## The pipeline's proof data -/

variable (m : (ℓ : Loc nD τ sig) → Buf (Elt F) ℓ)

/-- Window `w`'s array as the call finds it. -/
abbrev arr (d : Dev nD) (w : Fin cfg0.W) : Buf (Elt F) ((d : Thread nD τ).loc (Pipeline.arrRef spec0 w)) :=
  m ((d : Thread nD τ).loc (Pipeline.arrRef spec0 w))

/-- Window `w`'s block at point `t`, as the fetch stages it. -/
def staged (d : Dev nD) (w : Fin cfg0.W) (t : Fin cfg0.N) : ((cfg0.win w).xblock (cfg0.grid.coords t)).Idx → Elt F (cfg0.win w).elt :=
  ((cfg0.win w).blk t).view.read (Elt F) (arr m d w)

/-- Contents of the arrays, of the staging buffers after each point; the launch's debts carried unchanged, the
    waits recorded so far all at the kernels' own index. -/
def dat (d : Dev nD) : Dat τ (Elt F) (HIx 1) ℕ UU ℕ cfg0 d where
  A w := arr m d w
  after w t := match w with
    | ⟨0, _⟩ => staged m d 0 t
    | ⟨1, _⟩ => staged m d 1 t
    | ⟨2, _⟩ => left (staged m d 0 t) (staged m d 1 t)
  Φ _ := Pipeline.scopedRest (Ix := HIx 1) (Name := ℕ) (U := UU) (Lvl := ℕ) (Val := Elt F) spec0 d
  q _ := fullShare
  owed _ := (K (F := F)).Otc d 0
  recorded _ := {x | x.2 = none}

theorem dat_A (d : Dev nD) (w : Fin cfg0.W) : (dat m d).A w = arr m d w := by dsimp only [dat]
theorem after_0 (d : Dev nD) (t : Fin cfg0.N) : (dat m d).after 0 t = staged m d 0 t := by dsimp only [dat]
theorem after_1 (d : Dev nD) (t : Fin cfg0.N) : (dat m d).after 1 t = staged m d 1 t := by dsimp only [dat]
theorem after_2 (d : Dev nD) (t : Fin cfg0.N) : (dat m d).after 2 t = left (staged m d 0 t) (staged m d 1 t) := by dsimp only [dat]

/-- The table's buffer holds its block at every point, fetched there or not. -/
theorem before_0 (d : Dev nD) (t : Fin cfg0.N) (z) : (dat m d).before 0 t z = staged m d 0 t :=
  ((dat m d).before_in_eq_fetched 0 rfl (fun _ => rfl) (fun _ _ _ => rfl)
    (fun t => by rw [after_0]; unfold Dat.blockOf staged; rw [dat_A]; try rfl) t z).trans
    (by unfold Dat.fetched Dat.blockOf staged; rw [dat_A]; try rfl)

/-- So does the weights'. -/
theorem before_1 (d : Dev nD) (t : Fin cfg0.N) (z) : (dat m d).before 1 t z = staged m d 1 t :=
  ((dat m d).before_in_eq_fetched 1 rfl (fun _ => rfl) (fun _ _ _ => rfl)
    (fun t => by rw [after_1]; unfold Dat.blockOf staged; rw [dat_A]; try rfl) t z).trans
    (by unfold Dat.fetched Dat.blockOf staged; rw [dat_A]; try rfl)

/-- What the body is called with at point `t`, window by window. -/
def given (d : Dev nD) (t : Fin cfg0.N) : sProp 𝕄 :=
  iprop((dat m d).Φ t.castSucc ∗ (dat m d).owesAt none t.castSucc
    ∗ (∃ z, owns (d : Thread nD τ) (st0_0 t) fullShare ((dat m d).before 0 t z))
    ∗ (∃ z, owns (d : Thread nD τ) (st0_1 t) fullShare ((dat m d).before 1 t z))
    ∗ (∃ z, owns (d : Thread nD τ) (st0_2 t) fullShare ((dat m d).before 2 t z)))

/-- What it hands back. -/
def back (d : Dev nD) (t : Fin cfg0.N) : sProp 𝕄 :=
  iprop((dat m d).Φ t.succ ∗ (dat m d).owesAt none t.succ
    ∗ owns (d : Thread nD τ) (st0_0 t) fullShare ((dat m d).after 0 t)
    ∗ owns (d : Thread nD τ) (st0_1 t) fullShare ((dat m d).after 1 t)
    ∗ owns (d : Thread nD τ) (st0_2 t) fullShare ((dat m d).after 2 t))

theorem point (d : Dev nD) (t : Fin cfg0.N) :
    given m d t ⊢ wp frame (wpE (defs₀ (F := F)) 𝒱₀ d none) Set.univ (bodyAt0 t) (fun _ => back m d t) := by
  unfold given back bodyAt0
  simp only [before_0, before_1]
  rw [show (dat m d).Φ t.succ = (dat m d).Φ t.castSucc from rfl,
    show (dat m d).owesAt none t.succ = (dat m d).owesAt none t.castSucc from rfl, after_0, after_1, after_2]
  iintro ⟨HΦ, Ho, ⟨%z0, H0⟩, ⟨%z1, H1⟩, ⟨%z2, H2⟩⟩
  iapply (point_body d Set.univ (grid0.coords t) _ _ _ _ _ _ (staged m d 0 t) (staged m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs_row (t : Fin cfg0.N) :
    defs₀ (F := F) .tc cfg0.body (cfg0.bodyArgs t (cfg0.slots t)) = bodyAt0 t := by
  unfold defs₀; rfl

theorem obligation (d : Dev nD) : BodyObligation (dat (F := F) m d) (defs₀ (F := F)) 𝒱₀ none Set.univ := fun t => by
  rw [bigSep_W0, bigSep_W0, defs_row]
  exact triple_restated (point m d t) rfl .rfl fun _ => .rfl

/-! ## What the write-backs leave -/

theorem lt_50 (t : Fin cfg0.N) : t.val < 50 := lt_of_lt_of_eq t.isLt N_0

theorem coords_0 (t : Fin cfg0.N) : (grid0.coords t 0).val = t.val := by
  have h := lt_50 t
  rw [Pipeline.Grid.coords_val t 0 (S := 1) (B := 50) (by decide) rfl]
  omega

/-- The block index of the windows that move, at point `t`. -/
theorem index_0 (t : Fin cfg0.N) : (BitVec.ofNat 32 (grid0.coords t 0).val).toNat = t.val := by
  have h := lt_50 t
  rw [coords_0, BitVec.toNat_ofNat]
  omega

theorem staged_0 (d : Dev nD) (t : Fin cfg0.N) : staged m d 0 t = block (m (tLoc d)) t.val := by
  have h := lt_50 t
  have e := index_0 t
  funext y
  refine congrArg (m (tLoc d)) (ext2 ?_ ?_)
  · show (BitVec.ofNat 32 (grid0.coords t 0).val).toNat * 2000 + 1 * (y 0).val = (2000 * t.val + (y 0).val) % 100000
    have hy : (y 0).val < 2000 := (y 0).isLt
    rw [e]; omega
  · show 0 * 128 + 1 * (y 1).val = (y 1).val
    omega

theorem staged_1 (d : Dev nD) (t : Fin cfg0.N) : staged m d 1 t = m (wLoc d) := by
  funext y
  refine congrArg (m (wLoc d)) (ext2 ?_ ?_)
  · show 0 * 16 + 1 * (y 0).val = (y 0).val
    omega
  · show 0 * 128 + 1 * (y 1).val = (y 1).val
    omega

/-- The projected table of the launch's arrays. -/
abbrev projOf (d : Dev nD) : Vec F S100000x16 .f32 := proj (m (tLoc d)) (m (wLoc d))

theorem flushed_eq (d : Dev nD) (t : Fin cfg0.N) :
    (dat m d).flushed 2 t = (win0_2.blk t).view.read (Elt F) (projOf m d) := by
  have h := lt_50 t
  have e := index_0 t
  show (cfg0.win 2).cut (grid0.coords t) ((dat m d).after 2 t) = _
  rw [after_2, left_eq, staged_0, staged_1]
  funext y
  have hy : (y 0).val < 2000 := (y 0).isLt
  have h0 : (((win0_2.blk t).view.emb y) 0).val = 2000 * t.val + (y 0).val := by
    show (BitVec.ofNat 32 (grid0.coords t 0).val).toNat * 2000 + 1 * (y 0).val = 2000 * t.val + (y 0).val
    rw [e]; omega
  have h1 : (((win0_2.blk t).view.emb y) 1).val = (y 1).val := by
    show 0 * 16 + 1 * (y 1).val = (y 1).val
    omega
  show k0_pay1 (block (m (tLoc d)) t.val) (m (wLoc d)) y
    = k0_pay1 (block (m (tLoc d)) ((((win0_2.blk t).view.emb y) 0).val / 2000)) (m (wLoc d))
        (ix2 (⟨(((win0_2.blk t).view.emb y) 0).val % 2000, Nat.mod_lt _ (by decide)⟩ : Fin 2000) (((win0_2.blk t).view.emb y) 1))
  rw [show (((win0_2.blk t).view.emb y) 0).val / 2000 = t.val by rw [h0]; omega]
  refine congrArg (k0_pay1 (block (m (tLoc d)) t.val) (m (wLoc d))) (ext2 ?_ ?_)
  · show (y 0).val = (((win0_2.blk t).view.emb y) 0).val % 2000
    rw [h0]; omega
  · exact h1.symm

/-- Row `r` of the result is in the block of point `r / 2000`. -/
theorem covered (i : S100000x16.Idx) :
    ∃ t : Fin cfg0.N, (cfg0.win 2).flush t = true ∧ i ∈ ((cfg0.win 2).blk t).view.set := by
  have hi : (i 0).val < 100000 := (i 0).isLt
  have h1 : (i 1).val < 16 := (i 1).isLt
  have hN : cfg0.N = 50 := N_0
  have ht : (i 0).val / 2000 < cfg0.N := by omega
  refine ⟨⟨(i 0).val / 2000, ht⟩, flush0_2 _, ?_⟩
  have e := index_0 ⟨(i 0).val / 2000, ht⟩
  show i ∈ ((View.whole main_v0).slice (win0_2.rect ⟨(i 0).val / 2000, ht⟩)).set
  rw [View.set_slice_whole, Rect.mem_set_unit]
  intro a
  match a with
  | ⟨0, _⟩ =>
    show (BitVec.ofNat 32 (grid0.coords ⟨(i 0).val / 2000, ht⟩ 0).val).toNat * 2000 ≤ (i 0).val
      ∧ (i 0).val < (BitVec.ofNat 32 (grid0.coords ⟨(i 0).val / 2000, ht⟩ 0).val).toNat * 2000 + 2000
    rw [e]; dsimp only; omega
  | ⟨1, _⟩ =>
    show 0 * 16 ≤ (i 1).val ∧ (i 1).val < 0 * 16 + 16
    omega

theorem projected (d : Dev nD) : (dat m d).arrAt 2 cfg0.N = projOf m d :=
  (dat m d).arrAt_eq_of_cover 2 (projOf m d) (fun t _ => flushed_eq m d t) covered

/-! ## The call as a segment -/

/-- The one pipeline has no prefetched table. -/
abbrev adm : (p : Fin 1) → (pcfgs (F := F) p).Adm := fun p => (cfgs p).toPCfg_adm

/-- The proof data, as the family over the program's pipelines. -/
def dats : (p : Fin 1) → (d : Dev nD) → Dat τ (Elt F) (HIx 1) ℕ UU ℕ (Pipeline.pin (pcfgs (F := F)) adm p) d :=
  fun _ d => dat m d

/-- The core's debts to the launch, before its call. -/
def debts (d : Dev nD) : sProp 𝕄 :=
  iprop(∃ W, ⌜(K (F := F)).WBelow (T d) W 0⌝ ∗ owes (T d) ((K (F := F)).Otc d 0) W)

/-- The three arrays of the call, the result at `p`. -/
def three (d : Dev nD) (p : Vec F S100000x16 .f32) : sProp 𝕄 :=
  iprop((tLoc d ↦{fullShare} m (tLoc d)) ∗ (wLoc d ↦{fullShare} m (wLoc d)) ∗ (pLoc d ↦{fullShare} p))

theorem Otc_none (d : Dev nD) (n : ℕ) (g : GSem nD τ sig) : (K (F := F)).Otc d n g none = 0 := by
  by_contra h
  have h' := SparseCore.Cfg.lev_of_Otc_pos (Nat.pos_of_ne_zero h)
  rw [SparseCore.Cfg.lev_none] at h'
  omega

/-- A recorded wait at level 0 is at the kernels' own index, -/
theorem none_of_lev {g : GSem nD τ sig} {ι : HIx 1} (h : (K (F := F)).lev g ι ≤ 0) : ι = none := by
  cases ι with
  | none => rfl
  | some q => exact absurd h (Nat.not_le.2 ((K (F := F)).lev_some_pos g q))

theorem three_arrays (d : Dev nD) (A : (w : Fin cfg0.W) → Buf (Elt F) ((cfg0.win w).arr.view.loc (d.tc : Thread nD τ))) :
    ((dats m 0 d).arrays A : sProp 𝕄)
      = iprop((tLoc d ↦{fullShare} A 0) ∗ (wLoc d ↦{fullShare} A 1) ∗ (pLoc d ↦{fullShare} A 2)) := by
  have h := Pipeline.arrays_eq (Pipeline.pin (pcfgs (F := F)) adm) (dats m) 0 d arr_whole0 ((dats m 0 d).share_full fun _ => rfl) A
  rw [h]
  exact bigSep_W0 _

set_option backward.isDefEq.respectTransparency.types false in
def region : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (obligation m d).loose
  hwaits d := Pipeline.cellsWaits_intro _ _ _ _ _ fun _ _ _ => (K (F := F)).mayWait_none _ fun g => Otc_none d 0 g
  pre d := iprop(three m d (m (pLoc d)) ∗ debts d)
  post d := iprop(three m d (projOf m d) ∗ debts d)
  X _ := BI.emp
  Y _ := BI.emp
  Z _ := BI.emp
  hentry d := by
    rw [Pipeline.ownSems0_none, three_arrays]
    unfold three debts
    iintro ⟨⟨H, %W, %hW, HO⟩, -, -⟩
    imodintro
    isplitl [H]; · iexact H
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro
        intro x hx
        refine Or.inl ?_
        exact none_of_lev (hW x hx)
      iexact HO
    isplitr <;> iempintro
  hin d := by
    rw [show (dats m 0 d).Φ 0 = Pipeline.scopedRest (Ix := HIx 1) (Name := ℕ) (U := UU) (Lvl := ℕ) (Val := Elt F) spec0 d from rfl]
    iintro ⟨-, -, Hr⟩; iexact Hr
  hout d := by
    rw [Pipeline.ownSems0_none,
      show (dats m 0 d).Φ (Fin.last _) = Pipeline.scopedRest (Ix := HIx 1) (Name := ℕ) (U := UU) (Lvl := ℕ) (Val := Elt F) spec0 d from rfl]
    iintro Hr
    isplitr; · iempintro
    isplitr; · iempintro
    iexact Hr
  hexit d := by
    rw [three_arrays]
    unfold three debts
    have e0 : (dats m 0 d).arrAt 0 cfg0.N = m (tLoc d) := (dat m d).arrAt_in 0 rfl _
    have e1 : (dats m 0 d).arrAt 1 cfg0.N = m (wLoc d) := (dat m d).arrAt_in 1 rfl _
    have e2 : (dats m 0 d).arrAt 2 cfg0.N = projOf m d := projected m d
    iintro ⟨H, HO, -, -⟩
    imodintro
    isplitl [H]
    · rw [← e0, ← e1, ← e2]; iexact H
    unfold Pipeline.Dat.owesAt Pipeline.owesWithin
    icases HO with ⟨%W, %hW, HO⟩; iexists W; isplitr
    · ipureintro
      intro x hx
      have hn : x.2 = none := by
        rcases hW hx with h | ⟨_, _, h⟩
        · exact h
        · rw [h]
      rw [hn]
      exact le_rfl
    iexact HO

end Cert.KernelIdeal.Pool

end
-- ==== Proof.Ideal.Launch.lean ====
/-
  The program from launch to end.

  The TensorCore first runs the projection (`region`), then lays the ids out flat, then starts the SparseCores: each of the
  thirty-two tasks is handed a thirty-second of the projected table, of the flat ids and of the bias to read, and its own
  32 rows of the result array to write; they come back with the result array at `pooled`. The run's last statement,
  `run_main`, says that every execution ends, with the arguments as launched, the result array at `result`, and every
  semaphore at zero.
-/
module

public import proofs.«01_k».proof.Proof.Ideal.Tile
public import proofs.«01_k».proof.Proof.Ideal.Project

@[expose] public section

set_option maxRecDepth 16384

noncomputable section

namespace Cert.KernelIdeal.Pool

open Cert.KernelIdeal Cert.KernelIdeal.Gen

open Idealize.ShloMosaic Idealize.ShloMosaic.TcCoe
open Idealize.ShloMosaic.ValueIdx
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The kernels' body table with the pipeline's. -/
abbrev D : Defs nD τ sig (Elt F) (ΛP (F := F)) := Pipeline.defs pcfgs defs₀

/-! ## What the arrays hold -/

/-- The ids laid out flat, sample after sample. -/
def flat (ids : Vec F S1024x200 .i32) : Vec F S204800 .i32 := shapeCast S204800 ids shapeCasts_S1024x200_S204800

variable (m : (ℓ : Loc nD τ sig) → Buf (Elt F) ℓ) (ρ : Dev nD → PrngReg)

abbrev flatOf (d : Dev nD) : Vec F S204800 .i32 := flat (m (idLoc d))

/-- What the result array ends at. -/
abbrev result (d : Dev nD) : Vec F S1024x16 .f32 := pooled (projOf m d) (flatOf m d) (m (bLoc d))

/-! ## Thirty-two tasks -/

/-- Task `i` of SparseCore `c`, among the thirty-two. -/
def task (c : Fin 2) (i : Fin 16) : Fin 32 := ⟨2 * i.val + c.val, by omega⟩

/-- Each task's share of the arrays that are read. -/
abbrev sh (w : Fin 32) : PosShare TreeShare := pieceOf fullShare 32 (by decide) w

/-- Two SparseCores' sixteen tasks are the thirty-two. -/
theorem all_tasks (Φ : Fin 32 → sProp 𝕄) :
    (bigSep Finset.univ fun c : Fin 2 => bigSep Finset.univ fun i : Fin 16 => Φ (task c i)) = bigSep Finset.univ Φ := by
  rw [bigSep_univ_equiv ((Equiv.prodComm (Fin 2) (Fin 16)).trans (finProdFinEquiv : Fin 16 × Fin 2 ≃ Fin 32)) Φ, bigSep_univ_prod]
  refine bigSep_congr fun c _ => bigSep_congr fun i _ => congrArg Φ (Fin.ext ?_)
  show 2 * i.val + c.val = c.val + 2 * i.val
  omega

theorem oRowSet_eq (w : Fin 32) : oRowSet w = (orow w).set := by
  show ((View.whole (main_v2_scv : Ref sig .scVector)).slice (orow w)).set = _
  rw [View.set_slice]; exact Finset.map_refl

/-- The result array is its thirty-two blocks of rows. -/
theorem oPts_rows (d : Dev nD) (f : Buf (Elt F) (oLoc d)) :
    (oLoc d ↦{fullShare} f : sProp 𝕄) = bigSep Finset.univ fun w : Fin 32 => oLoc d ↦[oRowSet w]{fullShare} f := by
  have hd : ∀ i ∈ (Finset.univ : Finset (Fin 32)), ∀ j ∈ (Finset.univ : Finset (Fin 32)), i ≠ j → Disjoint (oRowSet i) (oRowSet j) :=
    fun i _ j _ h => by rw [oRowSet_eq, oRowSet_eq]; exact Rect.part_disjoint odiv h
  have hc : (Finset.univ : Finset (Fin 32)).biUnion oRowSet = Finset.univ :=
    (Finset.biUnion_congr rfl fun i _ => oRowSet_eq i).trans (Rect.biUnion_part odiv)
  rw [← pointsTo_biUnion Finset.univ (ℓ := oLoc d) oRowSet hd, hc]; try rfl

/-- The four arrays of the SparseCore call, the result at `o`. -/
def four (d : Dev nD) (o : Vec F S1024x16 .f32) : sProp 𝕄 :=
  iprop((pLoc d ↦{fullShare} projOf m d) ∗ (fLoc d ↦{fullShare} flatOf m d) ∗ (bLoc d ↦{fullShare} m (bLoc d)) ∗ (oLoc d ↦{fullShare} o))

/-- One task's part of them. -/
abbrev part (d : Dev nD) (o : Vec F S1024x16 .f32) (w : Fin 32) : sProp 𝕄 :=
  goRes d (projOf m d) (flatOf m d) (m (bLoc d)) o (sh w) w

theorem four_parts (d : Dev nD) (o : Vec F S1024x16 .f32) : four m d o = bigSep Finset.univ (part m d o) := by
  have e1 := pointsTo_piecesOf (ℓ := pLoc d) (Ix := HIx 1) (Name := ℕ) (U := UU) (Lvl := ℕ) Finset.univ (projOf m d) (show 0 < 32 by decide) fullShare
  have e2 := pointsTo_piecesOf (ℓ := fLoc d) (Ix := HIx 1) (Name := ℕ) (U := UU) (Lvl := ℕ) Finset.univ (flatOf m d) (show 0 < 32 by decide) fullShare
  have e3 := pointsTo_piecesOf (ℓ := bLoc d) (Ix := HIx 1) (Name := ℕ) (U := UU) (Lvl := ℕ) Finset.univ (m (bLoc d)) (show 0 < 32 by decide) fullShare
  unfold four part goRes
  rw [bigSep_sep', bigSep_sep', bigSep_sep', ← oPts_rows, e1, e2, e3]

/-! ## What the call's messages carry -/

def P : (K (F := F)).Pay (nD := nD) (Val := Elt F) (Name := ℕ) (U := UU) where
  st := fun q d c => match q with | 0 => bigSep Finset.univ fun i : Fin 16 => part m d (m (oLoc d)) (task c i)
  dn := fun q d c => match q with | 0 => bigSep Finset.univ fun i : Fin 16 => part m d (result m d) (task c i)
  go := fun q d c i => match q with | 0 => part m d (m (oLoc d)) (task c i)
  td := fun q d c i => match q with | 0 => part m d (result m d) (task c i)
  x := fun _ _ => iprop(emp)

instance part_storable (d : Dev nD) (o : Vec F S1024x16 .f32) (w : Fin 32) : BI.Storable (upEmb : UEmb _ 𝕄) (part m d o w) := by
  unfold part goRes; infer_instance

instance P_storable : (P (F := F) m).IsStorable where
  st q d c := match q with
    | 0 => (inferInstance : BI.Storable (upEmb : UEmb _ 𝕄) (bigSep Finset.univ fun i : Fin 16 => part m d (m (oLoc d)) (task c i)))
  dn q d c := match q with
    | 0 => (inferInstance : BI.Storable (upEmb : UEmb _ 𝕄) (bigSep Finset.univ fun i : Fin 16 => part m d (result m d) (task c i)))
  go q d c i := match q with
    | 0 => (inferInstance : BI.Storable (upEmb : UEmb _ 𝕄) (part m d (m (oLoc d)) (task c i)))
  td q d c i := match q with
    | 0 => (inferInstance : BI.Storable (upEmb : UEmb _ 𝕄) (part m d (result m d) (task c i)))

theorem st_eq (d : Dev nD) : (bigSep Finset.univ fun c : Fin ((K (F := F)).nCore 0) => (P m).st 0 d c) = four m d (m (oLoc d)) :=
  (all_tasks (part m d (m (oLoc d)))).trans (four_parts m d _).symm

theorem dn_eq (d : Dev nD) : (bigSep Finset.univ fun c : Fin ((K (F := F)).nCore 0) => (P m).dn 0 d c) = four m d (result m d) :=
  (all_tasks (part m d (result m d))).trans (four_parts m d _).symm

/-! ## The tasks -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_pool (coordsV c s)
          (Memref.whole main_v0_scv) (Memref.isWhole_whole _) (Memref.whole main_v1_scv) (Memref.isWhole_whole _)
          (Memref.whole main_arg3_scv) (Memref.isWhole_whole _) (Memref.whole main_v2_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scoped0 cc1_scoped1 cc1_scoped2) ⟨⟩ c s := rfl

/-- The waits a task records are at the kernels' own index. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hids : ∀ d, IdsOK (F := F) (flatOf m d)) :
    (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (projOf m d) (flatOf m d) (m (bLoc d)) (m (oLoc d)) (sh (task c i)) (hids d) O W hO).trans
    (wp_mono frame _ _ fun _ => obl_post)

theorem vecSplit : (K (F := F)).VecSplit' (P m) 0 := by
  intro d c
  show (bigSep Finset.univ fun i : Fin 16 => part m d (m (oLoc d)) (task c i)) ⊢ |={Set.univ}=> iprop(
      (bigSep Finset.univ fun i : Fin 16 => part m d (m (oLoc d)) (task c i))
      ∗ ((bigSep Finset.univ fun i : Fin 16 => part m d (result m d) (task c i))
          -∗ bigSep Finset.univ fun i : Fin 16 => part m d (result m d) (task c i)))
  iintro H; imodintro
  isplitl [H]; · iexact H
  iintro H; iexact H

/-! ## The ghost state at launch -/

/-- The pipeline's component. -/
abbrev EP : Emb UP 𝕄 := (Emb.inl : Emb UP (UP × Counters)).trans embR

/-- The pipeline's staging cells and duties on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem pin_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) (pin_inj (F := F))) (Pipeline.launchToks (Pipeline.pin (pcfgs (F := F)) adm) (pin_inj (F := F))), 1))

theorem no_emp {I : Type} (s : Finset I) : (bigSep s fun _ => iprop(emp)) = (iprop(emp) : sProp 𝕄) := bigSep_emp_const s

/-- There is one pipeline. -/
theorem one_pipeline (Φ : Dev nD → Fin 1 → sProp 𝕄) :
    (bigSep Finset.univ fun d => bigSep Finset.univ fun p => Φ d p) = bigSep Finset.univ fun d => Φ d 0 :=
  bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ (1 : Counters)) $$ HR
  icases H with ⟨HP, -⟩
  imod (Pipeline.fund_ghost (Pipeline.pin (pcfgs (F := F)) adm) EP (pin_inj (F := F))) $$ HP with ⟨Hc, Ht⟩
  ihave Hc := (Entails.of_eq (one_pipeline _)) $$ Hc
  ihave Ht := (Entails.of_eq (one_pipeline _)) $$ Ht
  imodintro
  isplitl [HH]; · iexact HH
  isplitl [Hc Ht]
  · unfold G
    rw [bigSep_sep']
    isplitl [Hc]
    · iexact Hc
    · iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_emp]
  iempintro

/-! ## The TensorCore's program -/

/-- The projection, as the launched program calls it. -/
theorem region_wp [∀ e, Nonempty (Elt F e)] (d : Dev nD) (Φ : PUnit → sProp 𝕄) :
    iprop((iprop(boundary (T d) ∗ three m d (projOf m d) ∗ debts (F := F) d) -∗ Φ ⟨⟩)
        ∗ boundary (T d) ∗ (three m d (m (pLoc d)) ∗ debts (F := F) d) ∗ levAts (K (F := F)).L (K (F := F)).lev ∗ G (F := F) d)
      ⊢ wp frame (wpE ((K (F := F)).defs (D (F := F))) 𝒱 (T d) none) Set.univ
          (Prog.lift (.customCall (SparseCore.inner (Pipeline.entry 0)) ())) Φ := by
  have h0 := (K (F := F)).wp_liftProg (D (F := F)) 𝒱 (T d) Set.univ none
    (.op (.customCall (Pipeline.entry 0) ()) (fun _ => .ret ⟨⟩) : Prog (TpuEff nD τ sig (Elt F) (ΛP (F := F)) .tc) PUnit) Φ
  refine BIBase.Entails.trans ?_ h0
  have h := Pipeline.RegionSeg.wp (pcfgs (F := F)) adm (dats m) none (pin_inj (F := F)) (EP (F := F)) defs₀ 𝒱₀ (K (F := F)).L (K (F := F)).lev
    (region m) d none (fun u hu => nomatch hu) (fun _ => .ret ⟨⟩) Φ
  rw [show (region m).pre d = iprop(three m d (m (pLoc d)) ∗ debts (F := F) d) from rfl,
    show (region m).post d = iprop(three m d (projOf m d) ∗ debts (F := F) d) from rfl] at h
  iintro ⟨Hk, Hb, H3, Hlv, Hg, Ht⟩
  iapply h
  isplitl [Hk]
  · iintro H
    rw [wp_ret]
    imodintro
    iapply Hk
    iexact H
  isplitl [Hb]; · iexact Hb
  isplitl [H3]; · iexact H3
  isplitl [Hlv]; · iexact Hlv
  isplitl [Hg] <;> iassumption

/-- The TensorCore's seven arrays. -/
theorem unscopedBufs_eq (d : Dev nD) (W : (b : Ref sig .tc) → Buf (Elt F) ((d.tc : Thread nD τ).loc b)) :
    (unscopedBufs d W : sProp 𝕄) = iprop((idLoc d ↦{fullShare} W main_arg0) ∗ (tLoc d ↦{fullShare} W main_arg1) ∗ (wLoc d ↦{fullShare} W main_arg2)
      ∗ (bLoc d ↦{fullShare} W main_arg3) ∗ (pLoc d ↦{fullShare} W main_v0) ∗ (fLoc d ↦{fullShare} W main_v1) ∗ oLoc d ↦{fullShare} W main_v2) := by
  unfold unscopedBufs
  rw [show (Finset.univ.filter fun b : Ref sig .tc => ¬ b.isScoped)
      = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev id' : DevRef τ sig := Proc.devRef .tc (main_arg0 : Ref sig .tc)
abbrev fl' : DevRef τ sig := Proc.devRef .tc (main_v1 : Ref sig .tc)
abbrev opFlat : HloOp τ sig (Elt F) := StableHlo.reshape main_arg0 main_v1 (rfl : (.i32 : EltTy) = .i32) shapeCasts_S1024x200_S204800
/-- The arrays of the flattening. -/
abbrev S2 : Finset (DevRef τ sig) := {id', fl'}
/-- The launch valuation. -/
def V0 (d : Dev nD) : Valuation τ sig (Elt F) := fun b => m (d, b)

theorem held_S2 (d : Dev nD) (W : Valuation τ sig (Elt F)) :
    (held (T d) S2 W : sProp 𝕄) = iprop((idLoc d ↦{fullShare} W id') ∗ fLoc d ↦{fullShare} W fl') := by
  unfold held S2
  rw [SparseCore.bigSep_insert' (by decide), bigSep_singleton]

theorem held_after (d : Dev nD) :
    (held (T d) S2 ((opFlat (F := F)).result (V0 m d)) : sProp 𝕄) = iprop((idLoc d ↦{fullShare} m (idLoc d)) ∗ fLoc d ↦{fullShare} flatOf m d) := by
  rw [held_S2, (opFlat (F := F)).result_of_not_mem (V0 m d) (b := id') (show id' ∉ ({fl'} : Finset (DevRef τ sig)) by decide)]
  rw [show (opFlat (F := F)).result (V0 m d) fl' = flatOf m d from StableHlo.reshape_result ..]
  rfl

theorem hFlat : (opFlat (F := F)).bufs ⊆ S2 := show ({id', fl'} : Finset (DevRef τ sig)) ⊆ S2 by decide

/-- What the TensorCore ends with: the arguments as launched, the result. -/
abbrev FIN (d : Dev nD) : sProp 𝕄 :=
  iprop((idLoc d ↦{fullShare} m (idLoc d)) ∗ (tLoc d ↦{fullShare} m (tLoc d)) ∗ (wLoc d ↦{fullShare} m (wLoc d))
    ∗ (bLoc d ↦{fullShare} m (bLoc d)) ∗ (oLoc d ↦{fullShare} result m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Ht, Hw, Hbias, Hp, Hf, Ho⟩, Hts, -⟩, HG⟩
  ihave Hlv := ((K (F := F)).ctx_levAts (EH := EH) (P := P m) κ) $$ Hctx
  -- the projection
  unfold SparseCore.Cfg.tcSt
  icases Hst with ⟨HO, Hst⟩
  iapply (region_wp m d)
  isplitr [Hb Ht Hw Hp HO Hlv HG]
  swap
  · isplitl [Hb]; · iexact Hb
    isplitl [Ht Hw Hp HO]
    · isplitl [Ht Hw Hp]
      · unfold three
        isplitl [Ht]; · iexact Ht
        isplitl [Hw]; · iexact Hw
        iexact Hp
      · unfold debts; iexact HO
    isplitl [Hlv]; · iexact Hlv
    iexact HG
  unfold three debts
  iintro ⟨Hb, ⟨Ht, Hw, Hp⟩, HO⟩
  -- the ids laid out flat
  iapply (wp_hlo_within 𝒱 (T d) none Set.univ (op := opFlat) (S := S2) hFlat (V := V0 m d)) $$ [Hb Hi Hf]
  · isplitl [Hb]; · iexact Hb
    rw [held_S2]
    isplitl [Hi]; · iexact Hi
    iexact Hf
  iintro ⟨Hb, Hheld⟩
  ihave Hh := (Entails.of_eq (held_after (F := F) m d)) $$ Hheld
  icases Hh with ⟨Hi, Hf⟩
  rw [wp_ret]; imodintro
  -- the SparseCores
  iapply ((K (F := F)).wp_run (D (F := F)) 𝒱 (EH := EH) (P := P m) κ d 0) $$ [Hst HO Hi Ht Hw Hbias Hp Hf Ho Hb Hts]
  isplitr; · iexact Hctx
  isplitl [Hst HO]
  · unfold SparseCore.Cfg.tcSt
    isplitl [HO]; · iexact HO
    iexact Hst
  isplitl [Hbias Hp Hf Ho]
  · rw [st_eq]
    unfold four
    isplitl [Hp]; · iexact Hp
    isplitl [Hf]; · iexact Hf
    isplitl [Hbias]; · iexact Hbias
    iexact Ho
  iintro ⟨Hst, Hdn⟩
  ihave Hdn' := (Entails.of_eq (dn_eq m d)) $$ Hdn
  unfold four
  icases Hdn' with ⟨-, -, Hbias, Ho⟩
  imodintro
  isplitl [Hst]; · unfold SparseCore.Cfg.tcSt; iexact Hst
  isplitr [Hb Hts]
  · isplitl [Hi]; · iexact Hi
    isplitl [Ht]; · iexact Ht
    isplitl [Hw]; · iexact Hw
    isplitl [Hbias]; · iexact Hbias
    iexact Ho
  isplitl [Hb] <;> iassumption

/-- The final memory of device `d`. -/
def fq (d : Dev nD) (s' : Phys nD τ sig (Elt F)) : Prop :=
  s'.mem.mem (idLoc d) = m (idLoc d) ∧ s'.mem.mem (tLoc d) = m (tLoc d) ∧ s'.mem.mem (wLoc d) = m (wLoc d)
    ∧ s'.mem.mem (bLoc d) = m (bLoc d) ∧ s'.mem.mem (oLoc d) = result m d

/-- An array held whole at `f` beside a state says that the state's memory holds `f` there. -/
theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hi, Ht, Hw, Hb, Ho⟩, HSI⟩
  ihave H := (agree (m (idLoc d)) s') $$ [HSI Hi]
  · isplitl [Hi] <;> iassumption
  icases H with ⟨%h0, HSI⟩
  ihave H := (agree (m (tLoc d)) s') $$ [HSI Ht]
  · isplitl [Ht] <;> iassumption
  icases H with ⟨%h1, HSI⟩
  ihave H := (agree (m (wLoc d)) s') $$ [HSI Hw]
  · isplitl [Hw] <;> iassumption
  icases H with ⟨%h2, HSI⟩
  ihave H := (agree (m (bLoc d)) s') $$ [HSI Hb]
  · isplitl [Hb] <;> iassumption
  icases H with ⟨%h3, HSI⟩
  ihave H := (agree (ℓ := oLoc d) (result m d) s') $$ [HSI Ho]
  · isplitl [Ho] <;> iassumption
  icases H with ⟨%h4, HSI⟩
  ipureintro; exact ⟨h0, h1, h2, h3, h4⟩

/-! ## The run -/

/-- What the run says of a final state. -/
def QC : PUnit × MemSt nD τ sig (Elt F) → Prop := fun r =>
  (∀ d : Dev nD, r.2.mem (idLoc d) = m (idLoc d) ∧ r.2.mem (tLoc d) = m (tLoc d) ∧ r.2.mem (wLoc d) = m (wLoc d)
    ∧ r.2.mem (bLoc d) = m (bLoc d) ∧ r.2.mem (oLoc d) = result m d) ∧ r.2.sem = fun _ => 0

theorem run_main [∀ e, Nonempty (Elt F e)] (hids : ∀ d, IdsOK (F := F) (flatOf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hids)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.KernelIdeal.Pool

end
-- ==== Proof.Frames.lean ====
/-
  The frames, and the named constant's claim: every program runs to its end, leaves its arguments as they were and every
  semaphore at zero.
-/
module

public import proofs.«01_k».proof.Defs
public import proofs.«01_k».proof.Proof.Ranges
public import proofs.«01_k».proof.Proof.Ideal.Launch
public import proofs.«01_k».proof.Proof.Bits.Launch
public import proofs.«01_k».proof.Proof.Gen.ReferenceIdeal.Run

@[expose] public section

set_option maxRecDepth 16384

noncomputable section

namespace Cert.Frames

open Idealize.ShloMosaic Idealize.SL.Sem

/-- The kernel's ids, laid out flat, are in range. -/
theorem ids_kernel (m : (ℓ : Loc Cert.Kernel.nD Cert.Kernel.τ Cert.Kernel.sig) → Buf (Elt Bits) ℓ) (h : Cert.Pre_Kernel m) (d : Dev Cert.Kernel.nD) :
    Cert.Kernel.Pool.IdsOK (F := Bits) (Cert.Kernel.Pool.flatOf m d) :=
  fun _ => Cert.Ranges.ids_lt (h d) _

theorem kernel : Cert.quiescent_Kernel := fun m ρ h =>
  (θ_run Cert.Kernel.defs _ _).mono (fun _ r => ⟨fun c => ⟨(r.1 c).1, (r.1 c).2.1, (r.1 c).2.2.1, (r.1 c).2.2.2.1⟩, r.2⟩)
    (Cert.Kernel.Pool.run_main (F := Bits) m ρ (ids_kernel m h))

section Ideal

variable (m : (ℓ : Loc Cert.KernelIdeal.nD Cert.KernelIdeal.τ Cert.KernelIdeal.sig) → Buf (Elt Ideal) ℓ)

theorem ids_ideal (h : Cert.Pre_KernelIdeal m) (d : Dev Cert.KernelIdeal.nD) :
    Cert.KernelIdeal.Pool.IdsOK (F := Ideal) (Cert.KernelIdeal.Pool.flatOf m d) :=
  fun _ => Cert.Ranges.ids_lt (h d) _

theorem ids_finite (h : Cert.Pre_KernelIdeal_ids_in_range_finite m) (d : Dev Cert.KernelIdeal.nD) :
    Cert.KernelIdeal.Pool.IdsOK (F := Ideal) (Cert.KernelIdeal.Pool.flatOf m d) :=
  fun _ => (Cert.Ranges.finite_parts (h d)).1 _

end Ideal

theorem kernelIdeal : Cert.quiescent_KernelIdeal := fun m ρ h =>
  (θ_run Cert.KernelIdeal.defs _ _).mono (fun _ r => ⟨fun c => ⟨(r.1 c).1, (r.1 c).2.1, (r.1 c).2.2.1, (r.1 c).2.2.2.1⟩, r.2⟩)
    (Cert.KernelIdeal.Pool.run_main (F := Ideal) m ρ (ids_ideal m h))

theorem kernelIdeal_finite : Cert.quiescent_KernelIdeal_pre_ids_in_range_finite := fun m ρ h =>
  (θ_run Cert.KernelIdeal.defs _ _).mono (fun _ r => ⟨fun c => ⟨(r.1 c).1, (r.1 c).2.1, (r.1 c).2.2.1, (r.1 c).2.2.2.1⟩, r.2⟩)
    (Cert.KernelIdeal.Pool.run_main (F := Ideal) m ρ (ids_finite m h))

/-- The reference declares no semaphore. -/
theorem reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem reference_finite : Cert.quiescent_ReferenceIdeal_pre_ids_in_range_finite := fun m ρ _ => reference m ρ trivial

/-- The kernel's scale, printed as the nearest 32-bit number to 1/200, is named 1/200. -/
theorem preserves : Cert.preserves_Kernel_KernelIdeal :=
  IdealRules.named_const.statement Cert.KernelIdeal.κ "inv_seq" .f32 0x3BA3D70A#32 ((1 / 200 : ℝ) : EReal) rfl

end Cert.Frames

end
-- ==== Proof.Equation.lean ====
/-
  The equation behind the kernel: projecting every row, adding the projections up and scaling the sum by 1/200 gives what
  averaging the rows and projecting the mean gives.

  It holds over the real numbers by exchanging two sums. Over the extended reals it needs the rows and the weights to be real:
  with rows ⊤ and ⊥ and weight -1, or rows 1 and -1 and weight ⊤, the two sides differ.
-/
module

public import Idealize.ShloMosaic.PureOps.Ideal
public import Idealize.ShloMosaic.Lib.IdealHost

@[expose] public section

noncomputable section

namespace Cert.Equation

open Idealize.ShloMosaic

/-- The reference's divisor, as printed, is 200. -/
theorem divisor : Ideal.ofBits .f32 0x43480000#32 = ((200 : ℝ) : EReal) := by
  simp [Ideal.ofBits, Ideal.ieee, -EReal.coe_mul]; norm_num

/-- A finite sum of real numbers, taken among the extended reals. -/
theorem sum_coe {n : ℕ} (f : Fin n → ℝ) : ∑ k, (f k : EReal) = ((∑ k, f k : ℝ) : EReal) := by
  induction n with
  | zero => simp
  | succ n ih => rw [Fin.sum_univ_castSucc, Fin.sum_univ_castSucc, ih, EReal.coe_add]

/-- Over the real numbers. -/
theorem real {n d : ℕ} (T : Fin n → Fin d → ℝ) (W : Fin d → ℝ) (c : ℝ) :
    (∑ j, ∑ k, T j k * W k) * c = ∑ k, ((∑ j, T j k) * c) * W k := by
  rw [Finset.sum_comm, Finset.sum_mul]
  refine Finset.sum_congr rfl fun k _ => ?_
  rw [← Finset.sum_mul]
  ring

/-- Over the extended reals, the rows and the weights real. -/
theorem pooled {n d : ℕ} (T : Fin n → Fin d → EReal) (W : Fin d → EReal) (hT : ∀ j k, ∃ r : ℝ, T j k = r) (hW : ∀ k, ∃ r : ℝ, W k = r) :
    (∑ j, ∑ k, T j k * W k) * ((1 / 200 : ℝ) : EReal) = ∑ k, Ideal.div (∑ j, T j k) (Ideal.ofBits .f32 0x43480000#32) * W k := by
  choose T' hT using hT
  choose W' hW using hW
  have hdiv (x : EReal) : Ideal.div x (Ideal.ofBits .f32 0x43480000#32) = x * ((1 / 200 : ℝ) : EReal) := by
    rw [divisor]; exact Ideal.div_coe (by norm_num) x
  simp only [hdiv, hT, hW, ← EReal.coe_mul, sum_coe]
  exact congrArg _ (real T' W' (1 / 200))

end Cert.Equation

end
-- ==== Proof.Reference.lean ====
/-
  What the reference computes: with every id in range, result (r, l) is the inner product of the mean of sample r's 200 table
  rows with row l of the weights, plus entry l of the bias.

  The reference reads a negative id from the table's end, and puts a NaN row where an id is out of range; with every id in
  range it does neither, and its gather reads row `ids (r, j)` of the table.
-/
module

public import proofs.«01_k».proof.Proof.Gen.ReferenceIdeal.Run
public import proofs.«01_k».proof.Proof.Ranges
public import Idealize.ShloMosaic.Lib.Pointwise
public import Idealize.ShloMosaic.Lib.ValueIdx

@[expose] public section

set_option maxRecDepth 16384

noncomputable section

namespace Cert.ReferenceIdeal.Pool

open Cert.ReferenceIdeal Cert.ReferenceIdeal.Gen
open Idealize.ShloMosaic Idealize.SL.Sem

variable (ids : IVec S1024x200 32) (t : FVec Ideal S100000x128 .f32) (w : FVec Ideal S16x128 .f32) (b : FVec Ideal S16 .f32)

/-! ## The reference's steps -/

/-- The ids, 100000 added to a negative one. -/
def wrapped : IVec S1024x200 32 :=
  select (cmpi .slt ids (broadcastInDim S1024x200 ![] bcast_S_S1024x200 (constantI S_ 32 0#32)))
    (addi ids (broadcastInDim S1024x200 ![] bcast_S_S1024x200 (constantI S_ 32 100000#32))) ids

/-- The ids as the gather takes them. -/
def starts : IVec S1024x200x1 32 := broadcastInDim S1024x200x1 ![0, 1] bcast_S1024x200_S1024x200x1_0_1 (wrapped ids)

/-- Which ids are in range. -/
def inside : IVec S1024x200 1 :=
  Host.reduce IntOp.andi
    (andi (cmpi .sge (starts ids) (broadcastInDim S1024x200x1 ![] bcast_S_S1024x200x1 (constantI S_ 32 0#32)))
      (cmpi .sle (starts ids) (broadcastInDim S1024x200x1 ![0, 1, 2] bcast_S1x1x1_S1024x200x1_0_1_2
        (broadcastInDim S1x1x1 ![2] bcast_S1_S1x1x1_2 (constantI S1 32 99999#32)))))
    (constantI S_ 1 1#1) reducesTo_S1024x200x1_S1024x200_d2 h_S_

/-- The rows the ids name. -/
def taken : FVec Ideal S1024x200x128 .f32 :=
  select (broadcastInDim S1024x200x128 ![0, 1] bcast_S1024x200_S1024x200x128_0_1 (inside ids))
    (Host.gather gather_S100000x128_S1024x200x1_S1024x200x128_2_0_n_n_0_2_1128 t (starts ids))
    (broadcastInDim S1024x200x128 ![] bcast_S_S1024x200x128 (constant S_ .f32 0x7FC00000#32))

/-- Each sample's mean row. -/
def mean (x : FVec Ideal S1024x200x128 .f32) : FVec Ideal S1024x128 .f32 :=
  Host.divf (Host.reduceAdd x (constant S_ .f32 0x00000000#32) reducesTo_S1024x200x128_S1024x128_d1 h_S_)
    (broadcastInDim S1024x128 ![] bcast_S_S1024x128 (constant S_ .f32 0x43480000#32))

/-- A mean row's inner products with the weights, plus the bias. -/
def logits (x : FVec Ideal S1024x128 .f32) : FVec Ideal S1024x16 .f32 :=
  addf (Host.dotGeneral dot_S1024x128_S128x16_S1024x16_1_0_0_1_n_n none x (transpose S128x16 [1, 0] w transposes_S16x128_S128x16_1_0))
    (broadcastInDim S1024x16 ![0, 1] bcast_S1x16_S1024x16_0_1 (broadcastInDim S1x16 ![1] bcast_S16_S1x16_1 b))

/-! ## Each step at an index -/

variable (h : ∀ j, (ids j).toNat < 100000)
include h

theorem wrapped_eq : wrapped ids = ids := by
  funext j
  have hz : IntOp.cmpi .slt (ids j) 0#32 ≠ 1#1 := by
    have one (p : Bool) : (BitVec.ofBool p = 1#1) ↔ p = true := by cases p <;> decide
    have := h j
    simp only [IntOp.cmpi, one, BitVec.slt_eq_decide, decide_eq_true_eq, BitVec.toInt_eq_toNat_cond, BitVec.toNat_ofNat, Nat.reducePow, Nat.reduceMod, ne_eq]
    omega
  show Scalar.select (IntOp.cmpi .slt (ids j) 0#32) _ (ids j) = ids j
  exact Scalar.select_of_ne_one hz _ _

theorem starts_apply (r : Fin 1024) (j : Fin 200) : starts ids (ix3 r j (0 : Fin 1)) = ids (ix2 r j) := by
  unfold starts
  rw [wrapped_eq ids h]
  pointwise

theorem inside_eq (i : S1024x200.Idx) : inside ids i = 1#1 := by
  unfold inside
  rw [Host.reduce_eq_fold]
  have hr := Finset.fold_op_rel_iff_and (op := IntOp.andi) (r := fun (_ : BitVec 1) y => y = 1#1)
    (s := Finset.univ.filter fun k => (reducesTo_S1024x200x1_S1024x200_d2).drop k = i)
    (f := andi (cmpi .sge (starts ids) (broadcastInDim S1024x200x1 ![] bcast_S_S1024x200x1 (constantI S_ 32 0#32)))
      (cmpi .sle (starts ids) (broadcastInDim S1024x200x1 ![0, 1, 2] bcast_S1x1x1_S1024x200x1_0_1_2
        (broadcastInDim S1x1x1 ![2] bcast_S1_S1x1x1_2 (constantI S1 32 99999#32)))))
    (b := constantI S_ 1 1#1 (Shape.Idx.first h_S_)) (c := 0#1) (fun {_ y z} => Cert.Ranges.and_one y z)
  refine hr.2 ⟨rfl, fun k _ => ?_⟩
  obtain ⟨r, j, z, rfl⟩ : ∃ (r : Fin 1024) (j : Fin 200) (z : Fin 1), k = ix3 r j z := ⟨k 0, k 1, k 2, eq_ix3 k⟩
  obtain rfl : z = 0 := Subsingleton.elim _ _
  show IntOp.andi (IntOp.cmpi .sge (starts ids (ix3 r j 0)) 0#32) (IntOp.cmpi .sle (starts ids (ix3 r j 0)) 99999#32) = 1#1
  rw [starts_apply ids h]
  have := h (ix2 r j)
  have one (p : Bool) : (BitVec.ofBool p = 1#1) ↔ p = true := by cases p <;> decide
  rw [Cert.Ranges.and_one]
  simp only [IntOp.cmpi, one, BitVec.sle_eq_decide, decide_eq_true_eq, BitVec.toInt_eq_toNat_cond, BitVec.toNat_ofNat, Nat.reducePow, Nat.reduceMod]
  omega

omit h in
/-- The gather at an index: the row its start index names, read as a signed number and kept within the table. -/
theorem gather_apply (s : IVec S1024x200x1 32) (r : Fin 1024) (j : Fin 200) (k : Fin 128) :
    Host.gather gather_S100000x128_S1024x200x1_S1024x200x128_2_0_n_n_0_2_1128 t s (ix3 r j k)
      = t (ix2 (⟨min (s (ix3 r j (0 : Fin 1))).toInt.toNat 99999, by omega⟩ : Fin 100000) k) := by
  unfold Host.gather
  refine congrArg t (funext fun a => Fin.ext ?_)
  match a with
  | ⟨0, _⟩ =>
    show GatherDims.start _ (ix3 r j k) s 0 + GatherDims.batchCoord _ (ix3 r j k) 0 + GatherDims.offCoord _ (ix3 r j k) 0 = _
    rw [GatherDims.batchCoord_eq_zero _ _ _ List.not_mem_nil,
      GatherDims.offCoord_eq_zero _ _ _ fun hm => ((GatherDims.mem_sKept _ _).1 hm).1 (List.mem_singleton.2 rfl)]
    unfold GatherDims.start
    rw [dif_pos (show (0 : Fin 2) ∈ gather_S100000x128_S1024x200x1_S1024x200x128_2_0_n_n_0_2_1128.startIndexMap from List.mem_singleton.2 rfl)]
    have hi : gather_S100000x128_S1024x200x1_S1024x200x128_2_0_n_n_0_2_1128.siIdx (ix3 r j k)
        ⟨List.idxOf (0 : Fin 2) gather_S100000x128_S1024x200x1_S1024x200x128_2_0_n_n_0_2_1128.startIndexMap,
          List.idxOf_lt_length_iff.2 (List.mem_singleton.2 rfl)⟩ = ix3 r j (0 : Fin 1) := by
      funext c; apply Fin.ext
      match c with
      | ⟨0, _⟩ => rfl
      | ⟨1, _⟩ => rfl
      | ⟨2, _⟩ => rfl
    rw [hi]; rfl
  | ⟨1, _⟩ =>
    show GatherDims.start _ (ix3 r j k) s 1 + GatherDims.batchCoord _ (ix3 r j k) 1 + GatherDims.offCoord _ (ix3 r j k) 1 = k.val
    rw [GatherDims.batchCoord_eq_zero _ _ _ List.not_mem_nil]
    unfold GatherDims.start
    rw [dif_neg (show (1 : Fin 2) ∉ gather_S100000x128_S1024x200x1_S1024x200x128_2_0_n_n_0_2_1128.startIndexMap by decide)]
    unfold GatherDims.offCoord
    rw [dif_pos ((GatherDims.mem_sKept _ _).2 ⟨by decide, by decide⟩)]
    simp only [Nat.zero_add, Nat.add_zero]
    rfl

theorem taken_apply (r : Fin 1024) (j : Fin 200) (k : Fin 128) :
    taken ids t (ix3 r j k) = t (ix2 (⟨(ids (ix2 r j)).toNat, h _⟩ : Fin 100000) k) := by
  have hc : broadcastInDim S1024x200x128 ![0, 1] bcast_S1024x200_S1024x200x128_0_1 (inside ids) (ix3 r j k) = 1#1 := inside_eq ids h _
  unfold taken
  rw [ValueIdx.select_apply, Scalar.select_of_eq_one hc, gather_apply]
  refine congrArg (fun x => t (ix2 x k)) (Fin.ext ?_)
  have hb := h (ix2 r j)
  have e : (starts ids (ix3 r j 0)).toInt.toNat = (ids (ix2 r j)).toNat := by
    rw [starts_apply ids h, BitVec.toInt_eq_toNat_cond, if_pos (by omega)]
    exact Int.toNat_natCast _
  exact (congrArg (fun n => min n 99999) e).trans (Nat.min_eq_left (by omega))

omit h in
theorem mean_apply (x : FVec Ideal S1024x200x128 .f32) (r : Fin 1024) (k : Fin 128) :
    mean x (ix2 r k) = Ideal.div (∑ j : Fin 200, x (ix3 r j k)) (Ideal.ofBits .f32 0x43480000#32) := by
  pointwise [mean]

omit h in
theorem logits_apply (x : FVec Ideal S1024x128 .f32) (r : Fin 1024) (l : Fin 16) :
    logits w b x (ix2 r l) = (∑ k : Fin 128, x (ix2 r k) * w (ix2 l k)) + b (ix1 l) := by
  pointwise [logits]

/-- The reference's result. -/
theorem result_apply (r : Fin 1024) (l : Fin 16) :
    logits w b (mean (taken ids t)) (ix2 r l)
      = (∑ k : Fin 128, Ideal.div (∑ j : Fin 200, (t (ix2 (⟨(ids (ix2 r j)).toNat, h _⟩ : Fin 100000) k) : EReal)) (Ideal.ofBits .f32 0x43480000#32) * w (ix2 l k))
        + b (ix1 l) := by
  rw [logits_apply]
  refine congrArg (· + _) (Finset.sum_congr rfl fun k _ => ?_)
  rw [mean_apply]
  simp only [taken_apply ids t h]

omit h ids t w b
/-- The reference's run ends with its result array at that. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v8)
          = logits (m ((c.tc : Thread nD τ).loc main_arg2)) (m ((c.tc : Thread nD τ).loc main_arg3))
              (mean (taken (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.ReferenceIdeal.Pool

end
-- ==== Proof.Ideal.Value.lean ====
/-
  What the kernel's result array holds, over the extended reals: with every id in range, entry (r, l) is

      (∑ j < 200, ∑ k < 128, table (ids (r, j), k) * weights (l, k)) * (1/200) + bias l.

  The projected table holds every row's inner products with the weights; a vector subcore's running sum of the rows that
  200 consecutive ids name is the sum of those rows; sample r's ids are the 200 from position 200 r of the flat id array on.
-/
module

public import proofs.«01_k».proof.Proof.Ideal.Launch
public import Idealize.ShloMosaic.Lib.Pointwise

@[expose] public section

set_option maxRecDepth 16384

noncomputable section

namespace Cert.KernelIdeal.Pool

open Cert.KernelIdeal Cert.KernelIdeal.Gen
open Idealize.ShloMosaic

variable (ids : IVec S1024x200 32) (t : FVec Ideal S100000x128 .f32) (w : FVec Ideal S16x128 .f32) (b : FVec Ideal S16 .f32)

/-- A block of the projected table at an index. -/
theorem pay_apply (x : FVec Ideal S2000x128 .f32) (r : Fin 2000) (l : Fin 16) :
    k0_pay1 (F := Ideal) x w (ix2 r l) = ∑ k : Fin 128, x (ix2 r k) * w (ix2 l k) := by
  pointwise [k0_pay1]

/-- The projected table at an index. -/
theorem proj_apply (v : Fin 100000) (l : Fin 16) :
    proj (F := Ideal) t w (ix2 v l) = ∑ k : Fin 128, t (ix2 v k) * w (ix2 l k) := by
  refine (pay_apply w (block (F := Ideal) t (v.val / 2000)) ⟨v.val % 2000, Nat.mod_lt _ (by decide)⟩ l).trans (Finset.sum_congr rfl fun k _ => ?_)
  refine congrArg (fun x => t (ix2 x k) * w (ix2 l k)) (Fin.ext ?_)
  show (2000 * (v.val / 2000) + v.val % 2000) % 100000 = v.val
  omega

/-- The running sum at an index. -/
theorem acc_apply (p : FVec Ideal S100000x16 .f32) (f : IVec S204800 32) (n k : ℕ) (l : Fin 16) :
    acc (F := Ideal) p f n k (ix1 l) = ∑ j : Fin k, (row (F := Ideal) p (f (flatIx (n + j.val))) (ix1 l) : EReal) := by
  induction k with
  | zero =>
    rw [Finset.univ_eq_empty, Finset.sum_empty]
    exact Ideal.ofBits_zero_f32
  | succ k ih =>
    rw [Fin.sum_univ_castSucc]
    exact congrArg (· + _) ih

/-- Sample `r`'s `j`-th id in the flat array. -/
theorem flat_apply (r : Fin 1024) (j : Fin 200) : flat (F := Ideal) ids (flatIx (200 * r.val + j.val)) = ids (ix2 r j) := by
  have hr := r.isLt
  have hj := j.isLt
  have e : flatIx (200 * r.val + j.val) = ix1 (⟨200 * r.val + j.val, by omega⟩ : Fin 204800) :=
    congrArg ix1 (Fin.ext (Nat.mod_eq_of_lt (by omega)))
  rw [e]
  pointwise [flat]

/-- The scaling and the bias at an index. -/
theorem scaled_apply (a : FVec Ideal S16 .f32) (l : Fin 16) :
    k1_pay3 (F := Ideal) b a (ix2 (0 : Fin 1) l) = a (ix1 l) * ((1 / 200 : ℝ) : EReal) + b (ix1 l) := by
  have e : Named.named (F := Ideal) κ "inv_seq" (φ := .f32) 0x3BA3D70A#32 = ((1 / 200 : ℝ) : EReal) := rfl
  pointwise [k1_pay3]
  rw [e]

/-- The result array at an index. -/
theorem pooled_apply (h : ∀ j, (ids j).toNat < 100000) (r : Fin 1024) (l : Fin 16) :
    pooled (F := Ideal) (proj t w) (flat ids) b (ix2 r l)
      = (∑ j : Fin 200, ∑ k : Fin 128, t (ix2 (⟨(ids (ix2 r j)).toNat, h _⟩ : Fin 100000) k) * w (ix2 l k)) * ((1 / 200 : ℝ) : EReal) + b (ix1 l) := by
  refine (scaled_apply b _ l).trans (congrArg (fun x => x * _ + _) ?_)
  rw [acc_apply]
  refine Finset.sum_congr rfl fun j _ => ?_
  refine (congrArg (fun v => row (F := Ideal) (proj t w) v (ix1 l)) (flat_apply ids r j)).trans ?_
  rw [← proj_apply]
  exact congrArg (fun x => proj (F := Ideal) t w (ix2 x l)) (Fin.ext (Nat.mod_eq_of_lt (h _)))

end Cert.KernelIdeal.Pool

end
-- ==== Proof.Algebraic.lean ====
/-
  The kernel's result equals the reference's, over the extended reals, entry by entry.

  At (r, l) the kernel's result is the sum over sample r's ids of their rows' inner products with row l of the weights, times
  1/200, plus bias l; the reference's is the inner product of the mean of those rows with row l of the weights, plus bias l. The
  rows and weights being real numbers, the two agree; the bias is added last on both sides and may be anything.
-/
module

public import proofs.«01_k».proof.Proof.Frames
public import proofs.«01_k».proof.Proof.Equation
public import proofs.«01_k».proof.Proof.Reference
public import proofs.«01_k».proof.Proof.Ideal.Value

@[expose] public section

set_option maxRecDepth 16384

noncomputable section

namespace Cert.Algebraic

open Idealize.ShloMosaic Idealize.SL.Sem

/-- The two result arrays of the same arguments. -/
theorem results_eq {ids t w b} (h : Cert.Pre_ids_in_range_finite.fn (F := Ideal) ids t w b = fun _ => 1#1) :
    Cert.ReferenceIdeal.Pool.logits w b (Cert.ReferenceIdeal.Pool.mean (Cert.ReferenceIdeal.Pool.taken ids t))
      = Cert.KernelIdeal.Pool.pooled (F := Ideal) (Cert.KernelIdeal.Pool.proj t w) (Cert.KernelIdeal.Pool.flat ids) b := by
  obtain ⟨hids, ht, hw⟩ := Cert.Ranges.finite_parts h
  funext i
  obtain ⟨r, l, rfl⟩ : ∃ (r : Fin 1024) (l : Fin 16), i = ix2 r l := ⟨i 0, i 1, eq_ix2 i⟩
  refine (Cert.ReferenceIdeal.Pool.result_apply ids t w b hids r l).trans (Eq.trans ?_ (Cert.KernelIdeal.Pool.pooled_apply ids t w b hids r l).symm)
  exact congrArg (· + _) (Cert.Equation.pooled (fun j k => t (ix2 ⟨(ids (ix2 r j)).toNat, hids _⟩ k)) (fun k => w (ix2 l k))
    (fun _ _ => ht _) (fun _ => hw _)).symm

theorem algebraic : Cert.algebraic_KernelIdeal_ReferenceIdeal_pre_ids_in_range_finite := by
  intro m ρ m' ρ' hpre hagree
  refine ⟨fun c => Cert.KernelIdeal.Pool.result m c,
    (θ_run Cert.KernelIdeal.defs _ _).mono
      (fun _ r c => ⟨(r.1 c).2.2.2.2, (r.1 c).1, (r.1 c).2.1, (r.1 c).2.2.1, (r.1 c).2.2.2.1⟩)
      (Cert.KernelIdeal.Pool.run_main (F := Ideal) m ρ (Cert.Frames.ids_finite m hpre)),
    (θ_run Cert.ReferenceIdeal.defs _ _).mono (fun _ r c => ⟨(r c).1.trans ?_, (r c).2⟩) (Cert.ReferenceIdeal.Pool.run m' ρ')⟩
  obtain ⟨e0, e1, e2, e3⟩ := hagree c
  rw [e0, e1, e2, e3]
  exact results_eq (hpre c)

end Cert.Algebraic

end
-- ==== Proof.lean ====
/-
  The claims, assembled: the frames and the named constant's claim (Proof/Frames.lean), and the equality of the kernel's and the
  reference's results (Proof/Algebraic.lean).
-/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_ids_in_range.Gen.facts,
    Cert.Pre_ids_in_range_finite.Gen.facts, Cert.Frames.kernel, Cert.Frames.kernelIdeal, Cert.Frames.kernelIdeal_finite,
    Cert.Frames.reference, Cert.Frames.reference_finite, Cert.Frames.preserves, Cert.Algebraic.algebraic⟩

end Cert.Proof

end
